-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_separated [hPre_separated : Cert.Pre_separated.Facts] (m : (ℓ : Loc Cert.KernelIdeal.nD Cert.KernelIdeal.τ Cert.KernelIdeal.sig) → Buf (Elt Ideal) ℓ) : Prop :=
  ∀ c : Dev Cert.KernelIdeal.nD,
    (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_separated [hPre_separated : Cert.Pre_separated.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_KernelIdeal_pre_separated [hKernelIdeal : Cert.KernelIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_separated m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def quiescent_ReferenceIdeal_pre_separated [hReferenceIdeal : Cert.ReferenceIdeal.Facts] [hPre_separated : Cert.Pre_separated.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_separated m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def preserves_Kernel_KernelIdeal : Prop :=
  True

def algebraic_KernelIdeal_ReferenceIdeal_pre_separated [hKernelIdeal : Cert.KernelIdeal.Facts] [hReferenceIdeal : Cert.ReferenceIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_separated m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def algebraic_KernelIdeal_ReferenceIdeal_on_separated_rows [hKernelIdeal : Cert.KernelIdeal.Facts] [hReferenceIdeal : Cert.ReferenceIdeal.Facts] [hOn_separated_rows : Cert.On_separated_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![256, 250]⟩ : Shape).Idx, (Cert.On_separated_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) i = 1#1 → r.2.mem ((c.tc : Thread Cert.KernelIdeal.nD Cert.KernelIdeal.τ).loc Cert.KernelIdeal.main_v13) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![256, 250]⟩ : Shape).Idx, (Cert.On_separated_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) i = 1#1 → r.2.mem ((c.tc : Thread Cert.ReferenceIdeal.nD Cert.ReferenceIdeal.τ).loc Cert.ReferenceIdeal.main_v116) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_separated : Cert.Pre_separated.Facts) (hOn_separated_rows : Cert.On_separated_rows.Facts),
    quiescent_Kernel (hKernel := hKernel)
    ∧ quiescent_KernelIdeal (hKernelIdeal := hKernelIdeal)
    ∧ quiescent_KernelIdeal_pre_separated (hKernelIdeal := hKernelIdeal) (hPre_separated := hPre_separated)
    ∧ quiescent_ReferenceIdeal (hReferenceIdeal := hReferenceIdeal)
    ∧ quiescent_ReferenceIdeal_pre_separated (hReferenceIdeal := hReferenceIdeal) (hPre_separated := hPre_separated)
    ∧ preserves_Kernel_KernelIdeal
    ∧ algebraic_KernelIdeal_ReferenceIdeal_pre_separated (hKernelIdeal := hKernelIdeal) (hReferenceIdeal := hReferenceIdeal) (hPre_separated := hPre_separated)
    ∧ algebraic_KernelIdeal_ReferenceIdeal_on_separated_rows (hKernelIdeal := hKernelIdeal) (hReferenceIdeal := hReferenceIdeal) (hOn_separated_rows := hOn_separated_rows)
-- ==== On_separated_rows.lean ====
abbrev S256x100000 : Shape := ⟨2, ![256, 100000]⟩
abbrev S800x100000 : Shape := ⟨2, ![800, 100000]⟩
abbrev S800 : Shape := ⟨1, ![800]⟩
abbrev S571x800 : Shape := ⟨2, ![571, 800]⟩
abbrev S571 : Shape := ⟨1, ![571]⟩
abbrev S500x571 : Shape := ⟨2, ![500, 571]⟩
abbrev S500 : Shape := ⟨1, ![500]⟩
abbrev S250x500 : Shape := ⟨2, ![250, 500]⟩
abbrev S250 : Shape := ⟨1, ![250]⟩
abbrev S250x250 : Shape := ⟨2, ![250, 250]⟩
abbrev S100000x800 : Shape := ⟨2, ![100000, 800]⟩
abbrev S256x800 : Shape := ⟨2, ![256, 800]⟩
abbrev S1x800 : Shape := ⟨2, ![1, 800]⟩
abbrev S_ : Shape := ⟨0, ![]⟩
abbrev S256 : Shape := ⟨1, ![256]⟩
abbrev S256x1 : Shape := ⟨2, ![256, 1]⟩
abbrev S256x280 : Shape := ⟨2, ![256, 280]⟩
abbrev S800x571 : Shape := ⟨2, ![800, 571]⟩
abbrev S256x571 : Shape := ⟨2, ![256, 571]⟩
abbrev S1x571 : Shape := ⟨2, ![1, 571]⟩
abbrev S256x199 : Shape := ⟨2, ![256, 199]⟩
abbrev S571x500 : Shape := ⟨2, ![571, 500]⟩
abbrev S256x500 : Shape := ⟨2, ![256, 500]⟩
abbrev S1x500 : Shape := ⟨2, ![1, 500]⟩
abbrev S256x175 : Shape := ⟨2, ![256, 175]⟩
abbrev S500x250 : Shape := ⟨2, ![500, 250]⟩
abbrev S256x250 : Shape := ⟨2, ![256, 250]⟩
abbrev S1x250 : Shape := ⟨2, ![1, 250]⟩
abbrev S256x87 : Shape := ⟨2, ![256, 87]⟩

class Facts : Prop where
  transposes_S800x100000_S100000x800_1_0 : S800x100000.Transposes [1, 0] S100000x800
  bcast_S800_S1x800_1 : S800.BroadcastsInDim S1x800 (![1] : Fin 1 → Fin S1x800.rank)
  bcast_S1x800_S256x800_0_1 : S1x800.BroadcastsInDim S256x800 (![0, 1] : Fin 2 → Fin S256x800.rank)
  reducesTo_S256x800_S256_d1 : S256x800.ReducesTo [1] S256
  h_S_ : 0 < S_.numel
  bcast_S256_S256x1_0 : S256.BroadcastsInDim S256x1 (![0] : Fin 1 → Fin S256x1.rank)
  bcast_S_S256x1 : S_.BroadcastsInDim S256x1 (![] : Fin 0 → Fin S256x1.rank)
  bcast_S256x1_S256x800_0_1 : S256x1.BroadcastsInDim S256x800 (![0, 1] : Fin 2 → Fin S256x800.rank)
  sliceFits_S256x800_S256x280 : S256x800.Slices (fun _ => 0) S256x280
  slices_S256x280_S256x1_0_279 : S256x280.Slices ![0, 279] S256x1
  bcast_S_S256x800 : S_.BroadcastsInDim S256x800 (![] : Fin 0 → Fin S256x800.rank)
  transposes_S571x800_S800x571_1_0 : S571x800.Transposes [1, 0] S800x571
  bcast_S571_S1x571_1 : S571.BroadcastsInDim S1x571 (![1] : Fin 1 → Fin S1x571.rank)
  bcast_S1x571_S256x571_0_1 : S1x571.BroadcastsInDim S256x571 (![0, 1] : Fin 2 → Fin S256x571.rank)
  reducesTo_S256x571_S256_d1 : S256x571.ReducesTo [1] S256
  bcast_S256x1_S256x571_0_1 : S256x1.BroadcastsInDim S256x571 (![0, 1] : Fin 2 → Fin S256x571.rank)
  sliceFits_S256x571_S256x199 : S256x571.Slices (fun _ => 0) S256x199
  slices_S256x199_S256x1_0_198 : S256x199.Slices ![0, 198] S256x1
  bcast_S_S256x571 : S_.BroadcastsInDim S256x571 (![] : Fin 0 → Fin S256x571.rank)
  transposes_S500x571_S571x500_1_0 : S500x571.Transposes [1, 0] S571x500
  bcast_S500_S1x500_1 : S500.BroadcastsInDim S1x500 (![1] : Fin 1 → Fin S1x500.rank)
  bcast_S1x500_S256x500_0_1 : S1x500.BroadcastsInDim S256x500 (![0, 1] : Fin 2 → Fin S256x500.rank)
  reducesTo_S256x500_S256_d1 : S256x500.ReducesTo [1] S256
  bcast_S256x1_S256x500_0_1 : S256x1.BroadcastsInDim S256x500 (![0, 1] : Fin 2 → Fin S256x500.rank)
  sliceFits_S256x500_S256x175 : S256x500.Slices (fun _ => 0) S256x175
  slices_S256x175_S256x1_0_174 : S256x175.Slices ![0, 174] S256x1
  bcast_S_S256x500 : S_.BroadcastsInDim S256x500 (![] : Fin 0 → Fin S256x500.rank)
  transposes_S250x500_S500x250_1_0 : S250x500.Transposes [1, 0] S500x250
  bcast_S250_S1x250_1 : S250.BroadcastsInDim S1x250 (![1] : Fin 1 → Fin S1x250.rank)
  bcast_S1x250_S256x250_0_1 : S1x250.BroadcastsInDim S256x250 (![0, 1] : Fin 2 → Fin S256x250.rank)
  reducesTo_S256x250_S256_d1 : S256x250.ReducesTo [1] S256
  bcast_S256x1_S256x250_0_1 : S256x1.BroadcastsInDim S256x250 (![0, 1] : Fin 2 → Fin S256x250.rank)
  sliceFits_S256x250_S256x87 : S256x250.Slices (fun _ => 0) S256x87
  slices_S256x87_S256x1_0_86 : S256x87.Slices ![0, 86] S256x1
  bcast_S_S256x250 : S_.BroadcastsInDim S256x250 (![] : Fin 0 → Fin S256x250.rank)
  dot_S256x100000_S100000x800_S256x800_1_0_0_1_n_n_wf : DotDims.WF S256x100000 S100000x800 S256x800 [1] [0] [0] [1] [] []
  dot_S256x800_S800x571_S256x571_1_0_0_1_n_n_wf : DotDims.WF S256x800 S800x571 S256x571 [1] [0] [0] [1] [] []
  dot_S256x571_S571x500_S256x500_1_0_0_1_n_n_wf : DotDims.WF S256x571 S571x500 S256x500 [1] [0] [0] [1] [] []
  dot_S256x500_S500x250_S256x250_1_0_0_1_n_n_wf : DotDims.WF S256x500 S500x250 S256x250 [1] [0] [0] [1] [] []

variable [Facts]

def dot_S256x100000_S100000x800_S256x800_1_0_0_1_n_n : DotDims S256x100000 S100000x800 S256x800 where
  lhsContracting := [1]
  rhsContracting := [0]
  lhsNonContracting := [0]
  rhsNonContracting := [1]
  lhsBatch := []
  rhsBatch := []
  wf := dot_S256x100000_S100000x800_S256x800_1_0_0_1_n_n_wf
def dot_S256x800_S800x571_S256x571_1_0_0_1_n_n : DotDims S256x800 S800x571 S256x571 where
  lhsContracting := [1]
  rhsContracting := [0]
  lhsNonContracting := [0]
  rhsNonContracting := [1]
  lhsBatch := []
  rhsBatch := []
  wf := dot_S256x800_S800x571_S256x571_1_0_0_1_n_n_wf
def dot_S256x571_S571x500_S256x500_1_0_0_1_n_n : DotDims S256x571 S571x500 S256x500 where
  lhsContracting := [1]
  rhsContracting := [0]
  lhsNonContracting := [0]
  rhsNonContracting := [1]
  lhsBatch := []
  rhsBatch := []
  wf := dot_S256x571_S571x500_S256x500_1_0_0_1_n_n_wf
def dot_S256x500_S500x250_S256x250_1_0_0_1_n_n : DotDims S256x500 S500x250 S256x250 where
  lhsContracting := [1]
  rhsContracting := [0]
  lhsNonContracting := [0]
  rhsNonContracting := [1]
  lhsBatch := []
  rhsBatch := []
  wf := dot_S256x500_S500x250_S256x250_1_0_0_1_n_n_wf
def fn_where {F : FTy → Type} [FloatOps F] (arg0 : IVec S_ 1) (arg1 : FVec F S256x1 .f32) (arg2 : FVec F S_ .f32) : FVec F S256x1 .f32 :=
  let v0 : FVec F S_ .f32 := id arg2
  let v1 : FVec F S256x1 .f32 := broadcastInDim S256x1 ![] bcast_S_S256x1 v0
  let v2 : FVec F S256x1 .f32 := (fun p a b => select (broadcastInDim S256x1 ![] bcast_S_S256x1 p) a b) arg0 arg1 v1
  v2

def fn_var {F : FTy → Type} [FloatOps F] (arg0 : FVec F S256x800 .f32) (arg1 : IVec S_ 32) : FVec F S256x1 .f32 :=
  let cst : FVec F S_ .f32 := constant S_ .f32 0x00000000#32
  let v0 : FVec F S256 .f32 := (fun x v => Host.reduceAdd x v reducesTo_S256x800_S256_d1 h_S_) arg0 cst
  let v1 : FVec F S256x1 .f32 := broadcastInDim S256x1 ![0] bcast_S256_S256x1_0 v0
  let cst_0 : FVec F S_ .f32 := constant S_ .f32 0x44480000#32
  let v2 : FVec F S256x1 .f32 := broadcastInDim S256x1 ![] bcast_S_S256x1 cst_0
  let v3 : FVec F S256x1 .f32 := Host.divf v1 v2
  let v4 : FVec F S256x800 .f32 := broadcastInDim S256x800 ![0, 1] bcast_S256x1_S256x800_0_1 v3
  let v5 : FVec F S256x800 .f32 := subf arg0 v4
  let v6 : FVec F S256x800 .f32 := mulf v5 v5
  let v7 : FVec F S_ .f32 := sitofp .f32 arg1
  let cst_1 : FVec F S_ .f32 := constant S_ .f32 0x44480000#32
  let v8 : FVec F S_ .f32 := subf cst_1 v7
  let cst_2 : FVec F S_ .f32 := constant S_ .f32 0x00000000#32
  let v9 : FVec F S256 .f32 := (fun x v => Host.reduceAdd x v reducesTo_S256x800_S256_d1 h_S_) v6 cst_2
  let v10 : FVec F S256x1 .f32 := broadcastInDim S256x1 ![0] bcast_S256_S256x1_0 v9
  let v11 : FVec F S256x1 .f32 := broadcastInDim S256x1 ![] bcast_S_S256x1 v8
  let v12 : FVec F S256x1 .f32 := Host.divf v10 v11
  let cst_3 : FVec F S_ .f32 := constant S_ .f32 0x00000000#32
  let v13 : IVec S_ 1 := cmpf .ogt v8 cst_3
  let cst_4 : FVec F S_ .f32 := constant S_ .f32 0x7FC00000#32
  let v14 : FVec F S256x1 .f32 := fn_where (F := F) v13 v12 cst_4
  v14

def fn_where_0 {F : FTy → Type} [FloatOps F] (arg0 : IVec S256x800 1) (arg1 : FVec F S256x800 .f32) (arg2 : FVec F S256x800 .f32) : FVec F S256x800 .f32 :=
  let v0 : FVec F S256x800 .f32 := select arg0 arg1 arg2
  v0

def fn_var_1 {F : FTy → Type} [FloatOps F] (arg0 : FVec F S256x571 .f32) (arg1 : IVec S_ 32) : FVec F S256x1 .f32 :=
  let cst : FVec F S_ .f32 := constant S_ .f32 0x00000000#32
  let v0 : FVec F S256 .f32 := (fun x v => Host.reduceAdd x v reducesTo_S256x571_S256_d1 h_S_) arg0 cst
  let v1 : FVec F S256x1 .f32 := broadcastInDim S256x1 ![0] bcast_S256_S256x1_0 v0
  let cst_0 : FVec F S_ .f32 := constant S_ .f32 0x440EC000#32
  let v2 : FVec F S256x1 .f32 := broadcastInDim S256x1 ![] bcast_S_S256x1 cst_0
  let v3 : FVec F S256x1 .f32 := Host.divf v1 v2
  let v4 : FVec F S256x571 .f32 := broadcastInDim S256x571 ![0, 1] bcast_S256x1_S256x571_0_1 v3
  let v5 : FVec F S256x571 .f32 := subf arg0 v4
  let v6 : FVec F S256x571 .f32 := mulf v5 v5
  let v7 : FVec F S_ .f32 := sitofp .f32 arg1
  let cst_1 : FVec F S_ .f32 := constant S_ .f32 0x440EC000#32
  let v8 : FVec F S_ .f32 := subf cst_1 v7
  let cst_2 : FVec F S_ .f32 := constant S_ .f32 0x00000000#32
  let v9 : FVec F S256 .f32 := (fun x v => Host.reduceAdd x v reducesTo_S256x571_S256_d1 h_S_) v6 cst_2
  let v10 : FVec F S256x1 .f32 := broadcastInDim S256x1 ![0] bcast_S256_S256x1_0 v9
  let v11 : FVec F S256x1 .f32 := broadcastInDim S256x1 ![] bcast_S_S256x1 v8
  let v12 : FVec F S256x1 .f32 := Host.divf v10 v11
  let cst_3 : FVec F S_ .f32 := constant S_ .f32 0x00000000#32
  let v13 : IVec S_ 1 := cmpf .ogt v8 cst_3
  let cst_4 : FVec F S_ .f32 := constant S_ .f32 0x7FC00000#32
  let v14 : FVec F S256x1 .f32 := fn_where (F := F) v13 v12 cst_4
  v14

def fn_where_2 {F : FTy → Type} [FloatOps F] (arg0 : IVec S256x571 1) (arg1 : FVec F S256x571 .f32) (arg2 : FVec F S256x571 .f32) : FVec F S256x571 .f32 :=
  let v0 : FVec F S256x571 .f32 := select arg0 arg1 arg2
  v0

def fn_var_3 {F : FTy → Type} [FloatOps F] (arg0 : FVec F S256x500 .f32) (arg1 : IVec S_ 32) : FVec F S256x1 .f32 :=
  let cst : FVec F S_ .f32 := constant S_ .f32 0x00000000#32
  let v0 : FVec F S256 .f32 := (fun x v => Host.reduceAdd x v reducesTo_S256x500_S256_d1 h_S_) arg0 cst
  let v1 : FVec F S256x1 .f32 := broadcastInDim S256x1 ![0] bcast_S256_S256x1_0 v0
  let cst_0 : FVec F S_ .f32 := constant S_ .f32 0x43FA0000#32
  let v2 : FVec F S256x1 .f32 := broadcastInDim S256x1 ![] bcast_S_S256x1 cst_0
  let v3 : FVec F S256x1 .f32 := Host.divf v1 v2
  let v4 : FVec F S256x500 .f32 := broadcastInDim S256x500 ![0, 1] bcast_S256x1_S256x500_0_1 v3
  let v5 : FVec F S256x500 .f32 := subf arg0 v4
  let v6 : FVec F S256x500 .f32 := mulf v5 v5
  let v7 : FVec F S_ .f32 := sitofp .f32 arg1
  let cst_1 : FVec F S_ .f32 := constant S_ .f32 0x43FA0000#32
  let v8 : FVec F S_ .f32 := subf cst_1 v7
  let cst_2 : FVec F S_ .f32 := constant S_ .f32 0x00000000#32
  let v9 : FVec F S256 .f32 := (fun x v => Host.reduceAdd x v reducesTo_S256x500_S256_d1 h_S_) v6 cst_2
  let v10 : FVec F S256x1 .f32 := broadcastInDim S256x1 ![0] bcast_S256_S256x1_0 v9
  let v11 : FVec F S256x1 .f32 := broadcastInDim S256x1 ![] bcast_S_S256x1 v8
  let v12 : FVec F S256x1 .f32 := Host.divf v10 v11
  let cst_3 : FVec F S_ .f32 := constant S_ .f32 0x00000000#32
  let v13 : IVec S_ 1 := cmpf .ogt v8 cst_3
  let cst_4 : FVec F S_ .f32 := constant S_ .f32 0x7FC00000#32
  let v14 : FVec F S256x1 .f32 := fn_where (F := F) v13 v12 cst_4
  v14

def fn_where_4 {F : FTy → Type} [FloatOps F] (arg0 : IVec S256x500 1) (arg1 : FVec F S256x500 .f32) (arg2 : FVec F S256x500 .f32) : FVec F S256x500 .f32 :=
  let v0 : FVec F S256x500 .f32 := select arg0 arg1 arg2
  v0

def fn_var_5 {F : FTy → Type} [FloatOps F] (arg0 : FVec F S256x250 .f32) (arg1 : IVec S_ 32) : FVec F S256x1 .f32 :=
  let cst : FVec F S_ .f32 := constant S_ .f32 0x00000000#32
  let v0 : FVec F S256 .f32 := (fun x v => Host.reduceAdd x v reducesTo_S256x250_S256_d1 h_S_) arg0 cst
  let v1 : FVec F S256x1 .f32 := broadcastInDim S256x1 ![0] bcast_S256_S256x1_0 v0
  let cst_0 : FVec F S_ .f32 := constant S_ .f32 0x437A0000#32
  let v2 : FVec F S256x1 .f32 := broadcastInDim S256x1 ![] bcast_S_S256x1 cst_0
  let v3 : FVec F S256x1 .f32 := Host.divf v1 v2
  let v4 : FVec F S256x250 .f32 := broadcastInDim S256x250 ![0, 1] bcast_S256x1_S256x250_0_1 v3
  let v5 : FVec F S256x250 .f32 := subf arg0 v4
  let v6 : FVec F S256x250 .f32 := mulf v5 v5
  let v7 : FVec F S_ .f32 := sitofp .f32 arg1
  let cst_1 : FVec F S_ .f32 := constant S_ .f32 0x437A0000#32
  let v8 : FVec F S_ .f32 := subf cst_1 v7
  let cst_2 : FVec F S_ .f32 := constant S_ .f32 0x00000000#32
  let v9 : FVec F S256 .f32 := (fun x v => Host.reduceAdd x v reducesTo_S256x250_S256_d1 h_S_) v6 cst_2
  let v10 : FVec F S256x1 .f32 := broadcastInDim S256x1 ![0] bcast_S256_S256x1_0 v9
  let v11 : FVec F S256x1 .f32 := broadcastInDim S256x1 ![] bcast_S_S256x1 v8
  let v12 : FVec F S256x1 .f32 := Host.divf v10 v11
  let cst_3 : FVec F S_ .f32 := constant S_ .f32 0x00000000#32
  let v13 : IVec S_ 1 := cmpf .ogt v8 cst_3
  let cst_4 : FVec F S_ .f32 := constant S_ .f32 0x7FC00000#32
  let v14 : FVec F S256x1 .f32 := fn_where (F := F) v13 v12 cst_4
  v14

def fn_part11 {F : FTy → Type} [FloatOps F] (main_v106 : FVec F S256x250 .f32) (main_v132 : IVec S256x1 1) (main_v158 : IVec S256x1 1) (main_v184 : IVec S256x1 1) (main_v185 : FVec F S256x1 .f32) (main_v199 : IVec S256x250 1) (main_v201 : IVec S256x250 1) (main_v203 : FVec F S256x1 .f32) : IVec S256x250 1 :=
  let main_v204 : FVec F S256x1 .f32 := subf main_v185 main_v203
  let main_v205 : FVec F S256x250 .f32 := broadcastInDim S256x250 ![0, 1] bcast_S256x1_S256x250_0_1 main_v204
  let main_v206 : IVec S256x250 1 := cmpf .ole main_v106 main_v205
  let main_v207 : IVec S256x250 1 := ori main_v201 main_v206
  let main_v208 : IVec S256x250 1 := andi main_v199 main_v207
  let main_c_56 : IVec S_ 1 := constantI S_ 1 1#1
  let main_v209 : IVec S256 1 := (fun x v => Host.reduce IntOp.andi x v reducesTo_S256x250_S256_d1 h_S_) main_v208 main_c_56
  let main_v210 : IVec S256x1 1 := broadcastInDim S256x1 ![0] bcast_S256_S256x1_0 main_v209
  let main_v211 : IVec S256x1 1 := andi main_v132 main_v158
  let main_v212 : IVec S256x1 1 := andi main_v211 main_v184
  let main_v213 : IVec S256x1 1 := andi main_v212 main_v210
  let main_v214 : IVec S256x250 1 := broadcastInDim S256x250 ![0, 1] bcast_S256x1_S256x250_0_1 main_v213
  main_v214

def fn_part10 {F : FTy → Type} [FloatOps F] (main_v106 : FVec F S256x250 .f32) (main_v132 : IVec S256x1 1) (main_v158 : IVec S256x1 1) (main_v184 : IVec S256x1 1) (main_v185 : FVec F S256x1 .f32) : IVec S256x250 1 :=
  let main_cst_50 : FVec F S_ .f32 := constant S_ .f32 0x7F800000#32
  let main_v186 : FVec F S256 .f32 := (fun x v => Host.reduce FloatOps.minimumf x v reducesTo_S256x250_S256_d1 h_S_) main_v106 main_cst_50
  let main_v187 : FVec F S256x1 .f32 := broadcastInDim S256x1 ![0] bcast_S256_S256x1_0 main_v186
  let main_cst_51 : FVec F S_ .f32 := constant S_ .f32 0xFF800000#32
  let main_v188 : FVec F S256 .f32 := (fun x v => Host.reduce FloatOps.maximumf x v reducesTo_S256x250_S256_d1 h_S_) main_v106 main_cst_51
  let main_v189 : FVec F S256x1 .f32 := broadcastInDim S256x1 ![0] bcast_S256_S256x1_0 main_v188
  let main_v190 : FVec F S256x1 .f32 := Host.absf main_v189
  let main_cst_52 : FVec F S_ .f32 := constant S_ .f32 0x3F800000#32
  let main_v191 : FVec F S256x1 .f32 := broadcastInDim S256x1 ![] bcast_S_S256x1 main_cst_52
  let main_v192 : FVec F S256x1 .f32 := addf main_v190 main_v191
  let main_cst_53 : FVec F S_ .f32 := constant S_ .f32 0x358637BD#32
  let main_v193 : FVec F S256x1 .f32 := broadcastInDim S256x1 ![] bcast_S_S256x1 main_cst_53
  let main_v194 : FVec F S256x1 .f32 := mulf main_v192 main_v193
  let main_v195 : FVec F S256x1 .f32 := addf main_v189 main_v194
  let main_v196 : FVec F S256x1 .f32 := subf main_v195 main_v187
  let main_v197 : FVec F S256x250 .f32 := Host.absf main_v106
  let main_cst_54 : FVec F S_ .f32 := constant S_ .f32 0x7F800000#32
  let main_v198 : FVec F S256x250 .f32 := broadcastInDim S256x250 ![] bcast_S_S256x250 main_cst_54
  let main_v199 : IVec S256x250 1 := cmpf .olt main_v197 main_v198
  let main_v200 : FVec F S256x250 .f32 := broadcastInDim S256x250 ![0, 1] bcast_S256x1_S256x250_0_1 main_v185
  let main_v201 : IVec S256x250 1 := cmpf .oge main_v106 main_v200
  let main_cst_55 : FVec F S_ .f32 := constant S_ .f32 0x35800000#32
  let main_v202 : FVec F S256x1 .f32 := broadcastInDim S256x1 ![] bcast_S_S256x1 main_cst_55
  let main_v203 : FVec F S256x1 .f32 := mulf main_v196 main_v202
  fn_part11 (F := F) main_v106 main_v132 main_v158 main_v184 main_v185 main_v199 main_v201 main_v203

def fn_part9 {F : FTy → Type} [FloatOps F] (main_v78 : FVec F S256x500 .f32) (main_v106 : FVec F S256x250 .f32) (main_v132 : IVec S256x1 1) (main_v158 : IVec S256x1 1) (main_v159 : FVec F S256x1 .f32) (main_v161 : FVec F S256x1 .f32) (main_v163 : FVec F S256x1 .f32) (main_v166 : FVec F S256x1 .f32) (main_cst_44 : FVec F S_ .f32) : IVec S256x250 1 :=
  let main_v167 : FVec F S256x1 .f32 := broadcastInDim S256x1 ![] bcast_S_S256x1 main_cst_44
  let main_v168 : FVec F S256x1 .f32 := mulf main_v166 main_v167
  let main_v169 : FVec F S256x1 .f32 := addf main_v163 main_v168
  let main_v170 : FVec F S256x1 .f32 := subf main_v169 main_v161
  let main_v171 : FVec F S256x500 .f32 := Host.absf main_v78
  let main_cst_45 : FVec F S_ .f32 := constant S_ .f32 0x7F800000#32
  let main_v172 : FVec F S256x500 .f32 := broadcastInDim S256x500 ![] bcast_S_S256x500 main_cst_45
  let main_v173 : IVec S256x500 1 := cmpf .olt main_v171 main_v172
  let main_v174 : FVec F S256x500 .f32 := broadcastInDim S256x500 ![0, 1] bcast_S256x1_S256x500_0_1 main_v159
  let main_v175 : IVec S256x500 1 := cmpf .oge main_v78 main_v174
  let main_cst_46 : FVec F S_ .f32 := constant S_ .f32 0x35800000#32
  let main_v176 : FVec F S256x1 .f32 := broadcastInDim S256x1 ![] bcast_S_S256x1 main_cst_46
  let main_v177 : FVec F S256x1 .f32 := mulf main_v170 main_v176
  let main_v178 : FVec F S256x1 .f32 := subf main_v159 main_v177
  let main_v179 : FVec F S256x500 .f32 := broadcastInDim S256x500 ![0, 1] bcast_S256x1_S256x500_0_1 main_v178
  let main_v180 : IVec S256x500 1 := cmpf .ole main_v78 main_v179
  let main_v181 : IVec S256x500 1 := ori main_v175 main_v180
  let main_v182 : IVec S256x500 1 := andi main_v173 main_v181
  let main_c_47 : IVec S_ 1 := constantI S_ 1 1#1
  let main_v183 : IVec S256 1 := (fun x v => Host.reduce IntOp.andi x v reducesTo_S256x500_S256_d1 h_S_) main_v182 main_c_47
  let main_v184 : IVec S256x1 1 := broadcastInDim S256x1 ![0] bcast_S256_S256x1_0 main_v183
  let main_values_48 : FVec F S256x87 .f32 := (fun x => (Host.topK S256x87 1 (FloatOps.cmpfTotal .gt) x sliceFits_S256x250_S256x87).1) main_v106
  let main_indices_49 : IVec S256x87 32 := (fun x => (Host.topK S256x87 1 (FloatOps.cmpfTotal .gt) x sliceFits_S256x250_S256x87).2) main_v106
  let main_v185 : FVec F S256x1 .f32 := (extractStridedSlice S256x1 ![0, 86] · slices_S256x87_S256x1_0_86) main_values_48
  fn_part10 (F := F) main_v106 main_v132 main_v158 main_v184 main_v185

def fn_part8 {F : FTy → Type} [FloatOps F] (main_v50 : FVec F S256x571 .f32) (main_v78 : FVec F S256x500 .f32) (main_v106 : FVec F S256x250 .f32) (main_v132 : IVec S256x1 1) (main_v133 : FVec F S256x1 .f32) (main_v144 : FVec F S256x1 .f32) (main_v147 : IVec S256x571 1) (main_v149 : IVec S256x571 1) (main_cst_37 : FVec F S_ .f32) : IVec S256x250 1 :=
  let main_v150 : FVec F S256x1 .f32 := broadcastInDim S256x1 ![] bcast_S_S256x1 main_cst_37
  let main_v151 : FVec F S256x1 .f32 := mulf main_v144 main_v150
  let main_v152 : FVec F S256x1 .f32 := subf main_v133 main_v151
  let main_v153 : FVec F S256x571 .f32 := broadcastInDim S256x571 ![0, 1] bcast_S256x1_S256x571_0_1 main_v152
  let main_v154 : IVec S256x571 1 := cmpf .ole main_v50 main_v153
  let main_v155 : IVec S256x571 1 := ori main_v149 main_v154
  let main_v156 : IVec S256x571 1 := andi main_v147 main_v155
  let main_c_38 : IVec S_ 1 := constantI S_ 1 1#1
  let main_v157 : IVec S256 1 := (fun x v => Host.reduce IntOp.andi x v reducesTo_S256x571_S256_d1 h_S_) main_v156 main_c_38
  let main_v158 : IVec S256x1 1 := broadcastInDim S256x1 ![0] bcast_S256_S256x1_0 main_v157
  let main_values_39 : FVec F S256x175 .f32 := (fun x => (Host.topK S256x175 1 (FloatOps.cmpfTotal .gt) x sliceFits_S256x500_S256x175).1) main_v78
  let main_indices_40 : IVec S256x175 32 := (fun x => (Host.topK S256x175 1 (FloatOps.cmpfTotal .gt) x sliceFits_S256x500_S256x175).2) main_v78
  let main_v159 : FVec F S256x1 .f32 := (extractStridedSlice S256x1 ![0, 174] · slices_S256x175_S256x1_0_174) main_values_39
  let main_cst_41 : FVec F S_ .f32 := constant S_ .f32 0x7F800000#32
  let main_v160 : FVec F S256 .f32 := (fun x v => Host.reduce FloatOps.minimumf x v reducesTo_S256x500_S256_d1 h_S_) main_v78 main_cst_41
  let main_v161 : FVec F S256x1 .f32 := broadcastInDim S256x1 ![0] bcast_S256_S256x1_0 main_v160
  let main_cst_42 : FVec F S_ .f32 := constant S_ .f32 0xFF800000#32
  let main_v162 : FVec F S256 .f32 := (fun x v => Host.reduce FloatOps.maximumf x v reducesTo_S256x500_S256_d1 h_S_) main_v78 main_cst_42
  let main_v163 : FVec F S256x1 .f32 := broadcastInDim S256x1 ![0] bcast_S256_S256x1_0 main_v162
  let main_v164 : FVec F S256x1 .f32 := Host.absf main_v163
  let main_cst_43 : FVec F S_ .f32 := constant S_ .f32 0x3F800000#32
  let main_v165 : FVec F S256x1 .f32 := broadcastInDim S256x1 ![] bcast_S_S256x1 main_cst_43
  let main_v166 : FVec F S256x1 .f32 := addf main_v164 main_v165
  let main_cst_44 : FVec F S_ .f32 := constant S_ .f32 0x358637BD#32
  fn_part9 (F := F) main_v78 main_v106 main_v132 main_v158 main_v159 main_v161 main_v163 main_v166 main_cst_44

def fn_part7 {F : FTy → Type} [FloatOps F] (main_v50 : FVec F S256x571 .f32) (main_v78 : FVec F S256x500 .f32) (main_v106 : FVec F S256x250 .f32) (main_v132 : IVec S256x1 1) (main_values_30 : FVec F S256x199 .f32) : IVec S256x250 1 :=
  let main_indices_31 : IVec S256x199 32 := (fun x => (Host.topK S256x199 1 (FloatOps.cmpfTotal .gt) x sliceFits_S256x571_S256x199).2) main_v50
  let main_v133 : FVec F S256x1 .f32 := (extractStridedSlice S256x1 ![0, 198] · slices_S256x199_S256x1_0_198) main_values_30
  let main_cst_32 : FVec F S_ .f32 := constant S_ .f32 0x7F800000#32
  let main_v134 : FVec F S256 .f32 := (fun x v => Host.reduce FloatOps.minimumf x v reducesTo_S256x571_S256_d1 h_S_) main_v50 main_cst_32
  let main_v135 : FVec F S256x1 .f32 := broadcastInDim S256x1 ![0] bcast_S256_S256x1_0 main_v134
  let main_cst_33 : FVec F S_ .f32 := constant S_ .f32 0xFF800000#32
  let main_v136 : FVec F S256 .f32 := (fun x v => Host.reduce FloatOps.maximumf x v reducesTo_S256x571_S256_d1 h_S_) main_v50 main_cst_33
  let main_v137 : FVec F S256x1 .f32 := broadcastInDim S256x1 ![0] bcast_S256_S256x1_0 main_v136
  let main_v138 : FVec F S256x1 .f32 := Host.absf main_v137
  let main_cst_34 : FVec F S_ .f32 := constant S_ .f32 0x3F800000#32
  let main_v139 : FVec F S256x1 .f32 := broadcastInDim S256x1 ![] bcast_S_S256x1 main_cst_34
  let main_v140 : FVec F S256x1 .f32 := addf main_v138 main_v139
  let main_cst_35 : FVec F S_ .f32 := constant S_ .f32 0x358637BD#32
  let main_v141 : FVec F S256x1 .f32 := broadcastInDim S256x1 ![] bcast_S_S256x1 main_cst_35
  let main_v142 : FVec F S256x1 .f32 := mulf main_v140 main_v141
  let main_v143 : FVec F S256x1 .f32 := addf main_v137 main_v142
  let main_v144 : FVec F S256x1 .f32 := subf main_v143 main_v135
  let main_v145 : FVec F S256x571 .f32 := Host.absf main_v50
  let main_cst_36 : FVec F S_ .f32 := constant S_ .f32 0x7F800000#32
  let main_v146 : FVec F S256x571 .f32 := broadcastInDim S256x571 ![] bcast_S_S256x571 main_cst_36
  let main_v147 : IVec S256x571 1 := cmpf .olt main_v145 main_v146
  let main_v148 : FVec F S256x571 .f32 := broadcastInDim S256x571 ![0, 1] bcast_S256x1_S256x571_0_1 main_v133
  let main_v149 : IVec S256x571 1 := cmpf .oge main_v50 main_v148
  let main_cst_37 : FVec F S_ .f32 := constant S_ .f32 0x35800000#32
  fn_part8 (F := F) main_v50 main_v78 main_v106 main_v132 main_v133 main_v144 main_v147 main_v149 main_cst_37

def fn_part6 {F : FTy → Type} [FloatOps F] (main_v22 : FVec F S256x800 .f32) (main_v50 : FVec F S256x571 .f32) (main_v78 : FVec F S256x500 .f32) (main_v106 : FVec F S256x250 .f32) (main_v107 : FVec F S256x1 .f32) (main_v109 : FVec F S256x1 .f32) (main_v111 : FVec F S256x1 .f32) (main_v112 : FVec F S256x1 .f32) (main_v113 : FVec F S256x1 .f32) : IVec S256x250 1 :=
  let main_v114 : FVec F S256x1 .f32 := addf main_v112 main_v113
  let main_cst_26 : FVec F S_ .f32 := constant S_ .f32 0x358637BD#32
  let main_v115 : FVec F S256x1 .f32 := broadcastInDim S256x1 ![] bcast_S_S256x1 main_cst_26
  let main_v116 : FVec F S256x1 .f32 := mulf main_v114 main_v115
  let main_v117 : FVec F S256x1 .f32 := addf main_v111 main_v116
  let main_v118 : FVec F S256x1 .f32 := subf main_v117 main_v109
  let main_v119 : FVec F S256x800 .f32 := Host.absf main_v22
  let main_cst_27 : FVec F S_ .f32 := constant S_ .f32 0x7F800000#32
  let main_v120 : FVec F S256x800 .f32 := broadcastInDim S256x800 ![] bcast_S_S256x800 main_cst_27
  let main_v121 : IVec S256x800 1 := cmpf .olt main_v119 main_v120
  let main_v122 : FVec F S256x800 .f32 := broadcastInDim S256x800 ![0, 1] bcast_S256x1_S256x800_0_1 main_v107
  let main_v123 : IVec S256x800 1 := cmpf .oge main_v22 main_v122
  let main_cst_28 : FVec F S_ .f32 := constant S_ .f32 0x35800000#32
  let main_v124 : FVec F S256x1 .f32 := broadcastInDim S256x1 ![] bcast_S_S256x1 main_cst_28
  let main_v125 : FVec F S256x1 .f32 := mulf main_v118 main_v124
  let main_v126 : FVec F S256x1 .f32 := subf main_v107 main_v125
  let main_v127 : FVec F S256x800 .f32 := broadcastInDim S256x800 ![0, 1] bcast_S256x1_S256x800_0_1 main_v126
  let main_v128 : IVec S256x800 1 := cmpf .ole main_v22 main_v127
  let main_v129 : IVec S256x800 1 := ori main_v123 main_v128
  let main_v130 : IVec S256x800 1 := andi main_v121 main_v129
  let main_c_29 : IVec S_ 1 := constantI S_ 1 1#1
  let main_v131 : IVec S256 1 := (fun x v => Host.reduce IntOp.andi x v reducesTo_S256x800_S256_d1 h_S_) main_v130 main_c_29
  let main_v132 : IVec S256x1 1 := broadcastInDim S256x1 ![0] bcast_S256_S256x1_0 main_v131
  let main_values_30 : FVec F S256x199 .f32 := (fun x => (Host.topK S256x199 1 (FloatOps.cmpfTotal .gt) x sliceFits_S256x571_S256x199).1) main_v50
  fn_part7 (F := F) main_v50 main_v78 main_v106 main_v132 main_values_30

def fn_part5 {F : FTy → Type} [FloatOps F] (main_arg15 : FVec F S250 .f32) (main_arg16 : FVec F S250 .f32) (main_v22 : FVec F S256x800 .f32) (main_v50 : FVec F S256x571 .f32) (main_v78 : FVec F S256x500 .f32) (main_v93 : FVec F S256x1 .f32) (main_v95 : FVec F S256x250 .f32) : IVec S256x250 1 :=
  let main_cst_20 : FVec F S_ .f32 := constant S_ .f32 0x3727C5AC#32
  let main_v96 : FVec F S256x1 .f32 := broadcastInDim S256x1 ![] bcast_S_S256x1 main_cst_20
  let main_v97 : FVec F S256x1 .f32 := addf main_v93 main_v96
  let main_v98 : FVec F S256x1 .f32 := Host.sqrt main_v97
  let main_v99 : FVec F S256x250 .f32 := broadcastInDim S256x250 ![0, 1] bcast_S256x1_S256x250_0_1 main_v98
  let main_v100 : FVec F S256x250 .f32 := Host.divf main_v95 main_v99
  let main_v101 : FVec F S1x250 .f32 := broadcastInDim S1x250 ![1] bcast_S250_S1x250_1 main_arg15
  let main_v102 : FVec F S256x250 .f32 := broadcastInDim S256x250 ![0, 1] bcast_S1x250_S256x250_0_1 main_v101
  let main_v103 : FVec F S256x250 .f32 := mulf main_v100 main_v102
  let main_v104 : FVec F S1x250 .f32 := broadcastInDim S1x250 ![1] bcast_S250_S1x250_1 main_arg16
  let main_v105 : FVec F S256x250 .f32 := broadcastInDim S256x250 ![0, 1] bcast_S1x250_S256x250_0_1 main_v104
  let main_v106 : FVec F S256x250 .f32 := addf main_v103 main_v105
  let main_values_21 : FVec F S256x280 .f32 := (fun x => (Host.topK S256x280 1 (FloatOps.cmpfTotal .gt) x sliceFits_S256x800_S256x280).1) main_v22
  let main_indices_22 : IVec S256x280 32 := (fun x => (Host.topK S256x280 1 (FloatOps.cmpfTotal .gt) x sliceFits_S256x800_S256x280).2) main_v22
  let main_v107 : FVec F S256x1 .f32 := (extractStridedSlice S256x1 ![0, 279] · slices_S256x280_S256x1_0_279) main_values_21
  let main_cst_23 : FVec F S_ .f32 := constant S_ .f32 0x7F800000#32
  let main_v108 : FVec F S256 .f32 := (fun x v => Host.reduce FloatOps.minimumf x v reducesTo_S256x800_S256_d1 h_S_) main_v22 main_cst_23
  let main_v109 : FVec F S256x1 .f32 := broadcastInDim S256x1 ![0] bcast_S256_S256x1_0 main_v108
  let main_cst_24 : FVec F S_ .f32 := constant S_ .f32 0xFF800000#32
  let main_v110 : FVec F S256 .f32 := (fun x v => Host.reduce FloatOps.maximumf x v reducesTo_S256x800_S256_d1 h_S_) main_v22 main_cst_24
  let main_v111 : FVec F S256x1 .f32 := broadcastInDim S256x1 ![0] bcast_S256_S256x1_0 main_v110
  let main_v112 : FVec F S256x1 .f32 := Host.absf main_v111
  let main_cst_25 : FVec F S_ .f32 := constant S_ .f32 0x3F800000#32
  let main_v113 : FVec F S256x1 .f32 := broadcastInDim S256x1 ![] bcast_S_S256x1 main_cst_25
  fn_part6 (F := F) main_v22 main_v50 main_v78 main_v106 main_v107 main_v109 main_v111 main_v112 main_v113

def fn_part4 {F : FTy → Type} [FloatOps F] (main_arg13 : FVec F S250x500 .f32) (main_arg14 : FVec F S250 .f32) (main_arg15 : FVec F S250 .f32) (main_arg16 : FVec F S250 .f32) (main_v22 : FVec F S256x800 .f32) (main_v50 : FVec F S256x571 .f32) (main_v75 : FVec F S256x500 .f32) (main_v77 : FVec F S256x500 .f32) : IVec S256x250 1 :=
  let main_v78 : FVec F S256x500 .f32 := addf main_v75 main_v77
  let main_values_14 : FVec F S256x175 .f32 := (fun x => (Host.topK S256x175 1 (FloatOps.cmpfTotal .gt) x sliceFits_S256x500_S256x175).1) main_v78
  let main_indices_15 : IVec S256x175 32 := (fun x => (Host.topK S256x175 1 (FloatOps.cmpfTotal .gt) x sliceFits_S256x500_S256x175).2) main_v78
  let main_v79 : FVec F S256x1 .f32 := (extractStridedSlice S256x1 ![0, 174] · slices_S256x175_S256x1_0_174) main_values_14
  let main_v80 : FVec F S256x500 .f32 := broadcastInDim S256x500 ![0, 1] bcast_S256x1_S256x500_0_1 main_v79
  let main_v81 : IVec S256x500 1 := cmpf .oge main_v78 main_v80
  let main_cst_16 : FVec F S_ .f32 := constant S_ .f32 0x00000000#32
  let main_v82 : FVec F S256x500 .f32 := broadcastInDim S256x500 ![] bcast_S_S256x500 main_cst_16
  let main_v83 : FVec F S256x500 .f32 := fn_where_4 (F := F) main_v81 main_v78 main_v82
  let main_v84 : FVec F S500x250 .f32 := (transpose S500x250 [1, 0] · transposes_S250x500_S500x250_1_0) main_arg13
  let main_v85 : FVec F S256x250 .f32 := (fun l r => Host.dotGeneral dot_S256x500_S500x250_S256x250_1_0_0_1_n_n none l r) main_v83 main_v84
  let main_v86 : FVec F S1x250 .f32 := broadcastInDim S1x250 ![1] bcast_S250_S1x250_1 main_arg14
  let main_v87 : FVec F S256x250 .f32 := broadcastInDim S256x250 ![0, 1] bcast_S1x250_S256x250_0_1 main_v86
  let main_v88 : FVec F S256x250 .f32 := addf main_v85 main_v87
  let main_cst_17 : FVec F S_ .f32 := constant S_ .f32 0x00000000#32
  let main_v89 : FVec F S256 .f32 := (fun x v => Host.reduceAdd x v reducesTo_S256x250_S256_d1 h_S_) main_v88 main_cst_17
  let main_v90 : FVec F S256x1 .f32 := broadcastInDim S256x1 ![0] bcast_S256_S256x1_0 main_v89
  let main_cst_18 : FVec F S_ .f32 := constant S_ .f32 0x437A0000#32
  let main_v91 : FVec F S256x1 .f32 := broadcastInDim S256x1 ![] bcast_S_S256x1 main_cst_18
  let main_v92 : FVec F S256x1 .f32 := Host.divf main_v90 main_v91
  let main_c_19 : IVec S_ 32 := constantI S_ 32 0#32
  let main_v93 : FVec F S256x1 .f32 := fn_var_5 (F := F) main_v88 main_c_19
  let main_v94 : FVec F S256x250 .f32 := broadcastInDim S256x250 ![0, 1] bcast_S256x1_S256x250_0_1 main_v92
  let main_v95 : FVec F S256x250 .f32 := subf main_v88 main_v94
  fn_part5 (F := F) main_arg15 main_arg16 main_v22 main_v50 main_v78 main_v93 main_v95

def fn_part3 {F : FTy → Type} [FloatOps F] (main_arg10 : FVec F S500 .f32) (main_arg11 : FVec F S500 .f32) (main_arg12 : FVec F S500 .f32) (main_arg13 : FVec F S250x500 .f32) (main_arg14 : FVec F S250 .f32) (main_arg15 : FVec F S250 .f32) (main_arg16 : FVec F S250 .f32) (main_v22 : FVec F S256x800 .f32) (main_v50 : FVec F S256x571 .f32) (main_v57 : FVec F S256x500 .f32) : IVec S256x250 1 :=
  let main_v58 : FVec F S1x500 .f32 := broadcastInDim S1x500 ![1] bcast_S500_S1x500_1 main_arg10
  let main_v59 : FVec F S256x500 .f32 := broadcastInDim S256x500 ![0, 1] bcast_S1x500_S256x500_0_1 main_v58
  let main_v60 : FVec F S256x500 .f32 := addf main_v57 main_v59
  let main_cst_10 : FVec F S_ .f32 := constant S_ .f32 0x00000000#32
  let main_v61 : FVec F S256 .f32 := (fun x v => Host.reduceAdd x v reducesTo_S256x500_S256_d1 h_S_) main_v60 main_cst_10
  let main_v62 : FVec F S256x1 .f32 := broadcastInDim S256x1 ![0] bcast_S256_S256x1_0 main_v61
  let main_cst_11 : FVec F S_ .f32 := constant S_ .f32 0x43FA0000#32
  let main_v63 : FVec F S256x1 .f32 := broadcastInDim S256x1 ![] bcast_S_S256x1 main_cst_11
  let main_v64 : FVec F S256x1 .f32 := Host.divf main_v62 main_v63
  let main_c_12 : IVec S_ 32 := constantI S_ 32 0#32
  let main_v65 : FVec F S256x1 .f32 := fn_var_3 (F := F) main_v60 main_c_12
  let main_v66 : FVec F S256x500 .f32 := broadcastInDim S256x500 ![0, 1] bcast_S256x1_S256x500_0_1 main_v64
  let main_v67 : FVec F S256x500 .f32 := subf main_v60 main_v66
  let main_cst_13 : FVec F S_ .f32 := constant S_ .f32 0x3727C5AC#32
  let main_v68 : FVec F S256x1 .f32 := broadcastInDim S256x1 ![] bcast_S_S256x1 main_cst_13
  let main_v69 : FVec F S256x1 .f32 := addf main_v65 main_v68
  let main_v70 : FVec F S256x1 .f32 := Host.sqrt main_v69
  let main_v71 : FVec F S256x500 .f32 := broadcastInDim S256x500 ![0, 1] bcast_S256x1_S256x500_0_1 main_v70
  let main_v72 : FVec F S256x500 .f32 := Host.divf main_v67 main_v71
  let main_v73 : FVec F S1x500 .f32 := broadcastInDim S1x500 ![1] bcast_S500_S1x500_1 main_arg11
  let main_v74 : FVec F S256x500 .f32 := broadcastInDim S256x500 ![0, 1] bcast_S1x500_S256x500_0_1 main_v73
  let main_v75 : FVec F S256x500 .f32 := mulf main_v72 main_v74
  let main_v76 : FVec F S1x500 .f32 := broadcastInDim S1x500 ![1] bcast_S500_S1x500_1 main_arg12
  let main_v77 : FVec F S256x500 .f32 := broadcastInDim S256x500 ![0, 1] bcast_S1x500_S256x500_0_1 main_v76
  fn_part4 (F := F) main_arg13 main_arg14 main_arg15 main_arg16 main_v22 main_v50 main_v75 main_v77

def fn_part2 {F : FTy → Type} [FloatOps F] (main_arg7 : FVec F S571 .f32) (main_arg8 : FVec F S571 .f32) (main_arg9 : FVec F S500x571 .f32) (main_arg10 : FVec F S500 .f32) (main_arg11 : FVec F S500 .f32) (main_arg12 : FVec F S500 .f32) (main_arg13 : FVec F S250x500 .f32) (main_arg14 : FVec F S250 .f32) (main_arg15 : FVec F S250 .f32) (main_arg16 : FVec F S250 .f32) (main_v22 : FVec F S256x800 .f32) (main_v32 : FVec F S256x571 .f32) (main_v36 : FVec F S256x1 .f32) (main_v37 : FVec F S256x1 .f32) : IVec S256x250 1 :=
  let main_v38 : FVec F S256x571 .f32 := broadcastInDim S256x571 ![0, 1] bcast_S256x1_S256x571_0_1 main_v36
  let main_v39 : FVec F S256x571 .f32 := subf main_v32 main_v38
  let main_cst_6 : FVec F S_ .f32 := constant S_ .f32 0x3727C5AC#32
  let main_v40 : FVec F S256x1 .f32 := broadcastInDim S256x1 ![] bcast_S_S256x1 main_cst_6
  let main_v41 : FVec F S256x1 .f32 := addf main_v37 main_v40
  let main_v42 : FVec F S256x1 .f32 := Host.sqrt main_v41
  let main_v43 : FVec F S256x571 .f32 := broadcastInDim S256x571 ![0, 1] bcast_S256x1_S256x571_0_1 main_v42
  let main_v44 : FVec F S256x571 .f32 := Host.divf main_v39 main_v43
  let main_v45 : FVec F S1x571 .f32 := broadcastInDim S1x571 ![1] bcast_S571_S1x571_1 main_arg7
  let main_v46 : FVec F S256x571 .f32 := broadcastInDim S256x571 ![0, 1] bcast_S1x571_S256x571_0_1 main_v45
  let main_v47 : FVec F S256x571 .f32 := mulf main_v44 main_v46
  let main_v48 : FVec F S1x571 .f32 := broadcastInDim S1x571 ![1] bcast_S571_S1x571_1 main_arg8
  let main_v49 : FVec F S256x571 .f32 := broadcastInDim S256x571 ![0, 1] bcast_S1x571_S256x571_0_1 main_v48
  let main_v50 : FVec F S256x571 .f32 := addf main_v47 main_v49
  let main_values_7 : FVec F S256x199 .f32 := (fun x => (Host.topK S256x199 1 (FloatOps.cmpfTotal .gt) x sliceFits_S256x571_S256x199).1) main_v50
  let main_indices_8 : IVec S256x199 32 := (fun x => (Host.topK S256x199 1 (FloatOps.cmpfTotal .gt) x sliceFits_S256x571_S256x199).2) main_v50
  let main_v51 : FVec F S256x1 .f32 := (extractStridedSlice S256x1 ![0, 198] · slices_S256x199_S256x1_0_198) main_values_7
  let main_v52 : FVec F S256x571 .f32 := broadcastInDim S256x571 ![0, 1] bcast_S256x1_S256x571_0_1 main_v51
  let main_v53 : IVec S256x571 1 := cmpf .oge main_v50 main_v52
  let main_cst_9 : FVec F S_ .f32 := constant S_ .f32 0x00000000#32
  let main_v54 : FVec F S256x571 .f32 := broadcastInDim S256x571 ![] bcast_S_S256x571 main_cst_9
  let main_v55 : FVec F S256x571 .f32 := fn_where_2 (F := F) main_v53 main_v50 main_v54
  let main_v56 : FVec F S571x500 .f32 := (transpose S571x500 [1, 0] · transposes_S500x571_S571x500_1_0) main_arg9
  let main_v57 : FVec F S256x500 .f32 := (fun l r => Host.dotGeneral dot_S256x571_S571x500_S256x500_1_0_0_1_n_n none l r) main_v55 main_v56
  fn_part3 (F := F) main_arg10 main_arg11 main_arg12 main_arg13 main_arg14 main_arg15 main_arg16 main_v22 main_v50 main_v57

def fn_part1 {F : FTy → Type} [FloatOps F] (main_arg4 : FVec F S800 .f32) (main_arg5 : FVec F S571x800 .f32) (main_arg6 : FVec F S571 .f32) (main_arg7 : FVec F S571 .f32) (main_arg8 : FVec F S571 .f32) (main_arg9 : FVec F S500x571 .f32) (main_arg10 : FVec F S500 .f32) (main_arg11 : FVec F S500 .f32) (main_arg12 : FVec F S500 .f32) (main_arg13 : FVec F S250x500 .f32) (main_arg14 : FVec F S250 .f32) (main_arg15 : FVec F S250 .f32) (main_arg16 : FVec F S250 .f32) (main_v19 : FVec F S256x800 .f32) : IVec S256x250 1 :=
  let main_v20 : FVec F S1x800 .f32 := broadcastInDim S1x800 ![1] bcast_S800_S1x800_1 main_arg4
  let main_v21 : FVec F S256x800 .f32 := broadcastInDim S256x800 ![0, 1] bcast_S1x800_S256x800_0_1 main_v20
  let main_v22 : FVec F S256x800 .f32 := addf main_v19 main_v21
  let main_values : FVec F S256x280 .f32 := (fun x => (Host.topK S256x280 1 (FloatOps.cmpfTotal .gt) x sliceFits_S256x800_S256x280).1) main_v22
  let main_indices : IVec S256x280 32 := (fun x => (Host.topK S256x280 1 (FloatOps.cmpfTotal .gt) x sliceFits_S256x800_S256x280).2) main_v22
  let main_v23 : FVec F S256x1 .f32 := (extractStridedSlice S256x1 ![0, 279] · slices_S256x280_S256x1_0_279) main_values
  let main_v24 : FVec F S256x800 .f32 := broadcastInDim S256x800 ![0, 1] bcast_S256x1_S256x800_0_1 main_v23
  let main_v25 : IVec S256x800 1 := cmpf .oge main_v22 main_v24
  let main_cst_2 : FVec F S_ .f32 := constant S_ .f32 0x00000000#32
  let main_v26 : FVec F S256x800 .f32 := broadcastInDim S256x800 ![] bcast_S_S256x800 main_cst_2
  let main_v27 : FVec F S256x800 .f32 := fn_where_0 (F := F) main_v25 main_v22 main_v26
  let main_v28 : FVec F S800x571 .f32 := (transpose S800x571 [1, 0] · transposes_S571x800_S800x571_1_0) main_arg5
  let main_v29 : FVec F S256x571 .f32 := (fun l r => Host.dotGeneral dot_S256x800_S800x571_S256x571_1_0_0_1_n_n none l r) main_v27 main_v28
  let main_v30 : FVec F S1x571 .f32 := broadcastInDim S1x571 ![1] bcast_S571_S1x571_1 main_arg6
  let main_v31 : FVec F S256x571 .f32 := broadcastInDim S256x571 ![0, 1] bcast_S1x571_S256x571_0_1 main_v30
  let main_v32 : FVec F S256x571 .f32 := addf main_v29 main_v31
  let main_cst_3 : FVec F S_ .f32 := constant S_ .f32 0x00000000#32
  let main_v33 : FVec F S256 .f32 := (fun x v => Host.reduceAdd x v reducesTo_S256x571_S256_d1 h_S_) main_v32 main_cst_3
  let main_v34 : FVec F S256x1 .f32 := broadcastInDim S256x1 ![0] bcast_S256_S256x1_0 main_v33
  let main_cst_4 : FVec F S_ .f32 := constant S_ .f32 0x440EC000#32
  let main_v35 : FVec F S256x1 .f32 := broadcastInDim S256x1 ![] bcast_S_S256x1 main_cst_4
  let main_v36 : FVec F S256x1 .f32 := Host.divf main_v34 main_v35
  let main_c_5 : IVec S_ 32 := constantI S_ 32 0#32
  let main_v37 : FVec F S256x1 .f32 := fn_var_1 (F := F) main_v32 main_c_5
  fn_part2 (F := F) main_arg7 main_arg8 main_arg9 main_arg10 main_arg11 main_arg12 main_arg13 main_arg14 main_arg15 main_arg16 main_v22 main_v32 main_v36 main_v37

def fn {F : FTy → Type} [FloatOps F] (main_arg0 : FVec F S256x100000 .f32) (main_arg1 : FVec F S800x100000 .f32) (main_arg2 : FVec F S800 .f32) (main_arg3 : FVec F S800 .f32) (main_arg4 : FVec F S800 .f32) (main_arg5 : FVec F S571x800 .f32) (main_arg6 : FVec F S571 .f32) (main_arg7 : FVec F S571 .f32) (main_arg8 : FVec F S571 .f32) (main_arg9 : FVec F S500x571 .f32) (main_arg10 : FVec F S500 .f32) (main_arg11 : FVec F S500 .f32) (main_arg12 : FVec F S500 .f32) (main_arg13 : FVec F S250x500 .f32) (main_arg14 : FVec F S250 .f32) (main_arg15 : FVec F S250 .f32) (main_arg16 : FVec F S250 .f32) (main_arg17 : FVec F S250x250 .f32) (main_arg18 : FVec F S250 .f32) : IVec S256x250 1 :=
  let main_v0 : FVec F S100000x800 .f32 := (transpose S100000x800 [1, 0] · transposes_S800x100000_S100000x800_1_0) main_arg1
  let main_v1 : FVec F S256x800 .f32 := (fun l r => Host.dotGeneral dot_S256x100000_S100000x800_S256x800_1_0_0_1_n_n none l r) main_arg0 main_v0
  let main_v2 : FVec F S1x800 .f32 := broadcastInDim S1x800 ![1] bcast_S800_S1x800_1 main_arg2
  let main_v3 : FVec F S256x800 .f32 := broadcastInDim S256x800 ![0, 1] bcast_S1x800_S256x800_0_1 main_v2
  let main_v4 : FVec F S256x800 .f32 := addf main_v1 main_v3
  let main_cst : FVec F S_ .f32 := constant S_ .f32 0x00000000#32
  let main_v5 : FVec F S256 .f32 := (fun x v => Host.reduceAdd x v reducesTo_S256x800_S256_d1 h_S_) main_v4 main_cst
  let main_v6 : FVec F S256x1 .f32 := broadcastInDim S256x1 ![0] bcast_S256_S256x1_0 main_v5
  let main_cst_0 : FVec F S_ .f32 := constant S_ .f32 0x44480000#32
  let main_v7 : FVec F S256x1 .f32 := broadcastInDim S256x1 ![] bcast_S_S256x1 main_cst_0
  let main_v8 : FVec F S256x1 .f32 := Host.divf main_v6 main_v7
  let main_c : IVec S_ 32 := constantI S_ 32 0#32
  let main_v9 : FVec F S256x1 .f32 := fn_var (F := F) main_v4 main_c
  let main_v10 : FVec F S256x800 .f32 := broadcastInDim S256x800 ![0, 1] bcast_S256x1_S256x800_0_1 main_v8
  let main_v11 : FVec F S256x800 .f32 := subf main_v4 main_v10
  let main_cst_1 : FVec F S_ .f32 := constant S_ .f32 0x3727C5AC#32
  let main_v12 : FVec F S256x1 .f32 := broadcastInDim S256x1 ![] bcast_S_S256x1 main_cst_1
  let main_v13 : FVec F S256x1 .f32 := addf main_v9 main_v12
  let main_v14 : FVec F S256x1 .f32 := Host.sqrt main_v13
  let main_v15 : FVec F S256x800 .f32 := broadcastInDim S256x800 ![0, 1] bcast_S256x1_S256x800_0_1 main_v14
  let main_v16 : FVec F S256x800 .f32 := Host.divf main_v11 main_v15
  let main_v17 : FVec F S1x800 .f32 := broadcastInDim S1x800 ![1] bcast_S800_S1x800_1 main_arg3
  let main_v18 : FVec F S256x800 .f32 := broadcastInDim S256x800 ![0, 1] bcast_S1x800_S256x800_0_1 main_v17
  let main_v19 : FVec F S256x800 .f32 := mulf main_v16 main_v18
  fn_part1 (F := F) main_arg4 main_arg5 main_arg6 main_arg7 main_arg8 main_arg9 main_arg10 main_arg11 main_arg12 main_arg13 main_arg14 main_arg15 main_arg16 main_v19
-- ==== Pre_separated.lean ====
abbrev S256x100000 : Shape := ⟨2, ![256, 100000]⟩
abbrev S800x100000 : Shape := ⟨2, ![800, 100000]⟩
abbrev S800 : Shape := ⟨1, ![800]⟩
abbrev S571x800 : Shape := ⟨2, ![571, 800]⟩
abbrev S571 : Shape := ⟨1, ![571]⟩
abbrev S500x571 : Shape := ⟨2, ![500, 571]⟩
abbrev S500 : Shape := ⟨1, ![500]⟩
abbrev S250x500 : Shape := ⟨2, ![250, 500]⟩
abbrev S250 : Shape := ⟨1, ![250]⟩
abbrev S250x250 : Shape := ⟨2, ![250, 250]⟩
abbrev S100000x800 : Shape := ⟨2, ![100000, 800]⟩
abbrev S256x800 : Shape := ⟨2, ![256, 800]⟩
abbrev S1x800 : Shape := ⟨2, ![1, 800]⟩
abbrev S_ : Shape := ⟨0, ![]⟩
abbrev S256 : Shape := ⟨1, ![256]⟩
abbrev S256x1 : Shape := ⟨2, ![256, 1]⟩
abbrev S256x280 : Shape := ⟨2, ![256, 280]⟩
abbrev S800x571 : Shape := ⟨2, ![800, 571]⟩
abbrev S256x571 : Shape := ⟨2, ![256, 571]⟩
abbrev S1x571 : Shape := ⟨2, ![1, 571]⟩
abbrev S256x199 : Shape := ⟨2, ![256, 199]⟩
abbrev S571x500 : Shape := ⟨2, ![571, 500]⟩
abbrev S256x500 : Shape := ⟨2, ![256, 500]⟩
abbrev S1x500 : Shape := ⟨2, ![1, 500]⟩
abbrev S256x175 : Shape := ⟨2, ![256, 175]⟩
abbrev S500x250 : Shape := ⟨2, ![500, 250]⟩
abbrev S256x250 : Shape := ⟨2, ![256, 250]⟩
abbrev S1x250 : Shape := ⟨2, ![1, 250]⟩
abbrev S256x87 : Shape := ⟨2, ![256, 87]⟩

class Facts : Prop where
  transposes_S800x100000_S100000x800_1_0 : S800x100000.Transposes [1, 0] S100000x800
  bcast_S800_S1x800_1 : S800.BroadcastsInDim S1x800 (![1] : Fin 1 → Fin S1x800.rank)
  bcast_S1x800_S256x800_0_1 : S1x800.BroadcastsInDim S256x800 (![0, 1] : Fin 2 → Fin S256x800.rank)
  reducesTo_S256x800_S256_d1 : S256x800.ReducesTo [1] S256
  h_S_ : 0 < S_.numel
  bcast_S256_S256x1_0 : S256.BroadcastsInDim S256x1 (![0] : Fin 1 → Fin S256x1.rank)
  bcast_S_S256x1 : S_.BroadcastsInDim S256x1 (![] : Fin 0 → Fin S256x1.rank)
  bcast_S256x1_S256x800_0_1 : S256x1.BroadcastsInDim S256x800 (![0, 1] : Fin 2 → Fin S256x800.rank)
  sliceFits_S256x800_S256x280 : S256x800.Slices (fun _ => 0) S256x280
  slices_S256x280_S256x1_0_279 : S256x280.Slices ![0, 279] S256x1
  bcast_S_S256x800 : S_.BroadcastsInDim S256x800 (![] : Fin 0 → Fin S256x800.rank)
  transposes_S571x800_S800x571_1_0 : S571x800.Transposes [1, 0] S800x571
  bcast_S571_S1x571_1 : S571.BroadcastsInDim S1x571 (![1] : Fin 1 → Fin S1x571.rank)
  bcast_S1x571_S256x571_0_1 : S1x571.BroadcastsInDim S256x571 (![0, 1] : Fin 2 → Fin S256x571.rank)
  reducesTo_S256x571_S256_d1 : S256x571.ReducesTo [1] S256
  bcast_S256x1_S256x571_0_1 : S256x1.BroadcastsInDim S256x571 (![0, 1] : Fin 2 → Fin S256x571.rank)
  sliceFits_S256x571_S256x199 : S256x571.Slices (fun _ => 0) S256x199
  slices_S256x199_S256x1_0_198 : S256x199.Slices ![0, 198] S256x1
  bcast_S_S256x571 : S_.BroadcastsInDim S256x571 (![] : Fin 0 → Fin S256x571.rank)
  transposes_S500x571_S571x500_1_0 : S500x571.Transposes [1, 0] S571x500
  bcast_S500_S1x500_1 : S500.BroadcastsInDim S1x500 (![1] : Fin 1 → Fin S1x500.rank)
  bcast_S1x500_S256x500_0_1 : S1x500.BroadcastsInDim S256x500 (![0, 1] : Fin 2 → Fin S256x500.rank)
  reducesTo_S256x500_S256_d1 : S256x500.ReducesTo [1] S256
  bcast_S256x1_S256x500_0_1 : S256x1.BroadcastsInDim S256x500 (![0, 1] : Fin 2 → Fin S256x500.rank)
  sliceFits_S256x500_S256x175 : S256x500.Slices (fun _ => 0) S256x175
  slices_S256x175_S256x1_0_174 : S256x175.Slices ![0, 174] S256x1
  bcast_S_S256x500 : S_.BroadcastsInDim S256x500 (![] : Fin 0 → Fin S256x500.rank)
  transposes_S250x500_S500x250_1_0 : S250x500.Transposes [1, 0] S500x250
  bcast_S250_S1x250_1 : S250.BroadcastsInDim S1x250 (![1] : Fin 1 → Fin S1x250.rank)
  bcast_S1x250_S256x250_0_1 : S1x250.BroadcastsInDim S256x250 (![0, 1] : Fin 2 → Fin S256x250.rank)
  reducesTo_S256x250_S256_d1 : S256x250.ReducesTo [1] S256
  bcast_S256x1_S256x250_0_1 : S256x1.BroadcastsInDim S256x250 (![0, 1] : Fin 2 → Fin S256x250.rank)
  reducesTo_S256x800_S_d0_1 : S256x800.ReducesTo [0, 1] S_
  reducesTo_S256x571_S_d0_1 : S256x571.ReducesTo [0, 1] S_
  reducesTo_S256x500_S_d0_1 : S256x500.ReducesTo [0, 1] S_
  sliceFits_S256x250_S256x87 : S256x250.Slices (fun _ => 0) S256x87
  slices_S256x87_S256x1_0_86 : S256x87.Slices ![0, 86] S256x1
  bcast_S_S256x250 : S_.BroadcastsInDim S256x250 (![] : Fin 0 → Fin S256x250.rank)
  reducesTo_S256x250_S_d0_1 : S256x250.ReducesTo [0, 1] S_
  dot_S256x100000_S100000x800_S256x800_1_0_0_1_n_n_wf : DotDims.WF S256x100000 S100000x800 S256x800 [1] [0] [0] [1] [] []
  dot_S256x800_S800x571_S256x571_1_0_0_1_n_n_wf : DotDims.WF S256x800 S800x571 S256x571 [1] [0] [0] [1] [] []
  dot_S256x571_S571x500_S256x500_1_0_0_1_n_n_wf : DotDims.WF S256x571 S571x500 S256x500 [1] [0] [0] [1] [] []
  dot_S256x500_S500x250_S256x250_1_0_0_1_n_n_wf : DotDims.WF S256x500 S500x250 S256x250 [1] [0] [0] [1] [] []

variable [Facts]

def dot_S256x100000_S100000x800_S256x800_1_0_0_1_n_n : DotDims S256x100000 S100000x800 S256x800 where
  lhsContracting := [1]
  rhsContracting := [0]
  lhsNonContracting := [0]
  rhsNonContracting := [1]
  lhsBatch := []
  rhsBatch := []
  wf := dot_S256x100000_S100000x800_S256x800_1_0_0_1_n_n_wf
def dot_S256x800_S800x571_S256x571_1_0_0_1_n_n : DotDims S256x800 S800x571 S256x571 where
  lhsContracting := [1]
  rhsContracting := [0]
  lhsNonContracting := [0]
  rhsNonContracting := [1]
  lhsBatch := []
  rhsBatch := []
  wf := dot_S256x800_S800x571_S256x571_1_0_0_1_n_n_wf
def dot_S256x571_S571x500_S256x500_1_0_0_1_n_n : DotDims S256x571 S571x500 S256x500 where
  lhsContracting := [1]
  rhsContracting := [0]
  lhsNonContracting := [0]
  rhsNonContracting := [1]
  lhsBatch := []
  rhsBatch := []
  wf := dot_S256x571_S571x500_S256x500_1_0_0_1_n_n_wf
def dot_S256x500_S500x250_S256x250_1_0_0_1_n_n : DotDims S256x500 S500x250 S256x250 where
  lhsContracting := [1]
  rhsContracting := [0]
  lhsNonContracting := [0]
  rhsNonContracting := [1]
  lhsBatch := []
  rhsBatch := []
  wf := dot_S256x500_S500x250_S256x250_1_0_0_1_n_n_wf
def fn_where {F : FTy → Type} [FloatOps F] (arg0 : IVec S_ 1) (arg1 : FVec F S256x1 .f32) (arg2 : FVec F S_ .f32) : FVec F S256x1 .f32 :=
  let v0 : FVec F S_ .f32 := id arg2
  let v1 : FVec F S256x1 .f32 := broadcastInDim S256x1 ![] bcast_S_S256x1 v0
  let v2 : FVec F S256x1 .f32 := (fun p a b => select (broadcastInDim S256x1 ![] bcast_S_S256x1 p) a b) arg0 arg1 v1
  v2

def fn_var {F : FTy → Type} [FloatOps F] (arg0 : FVec F S256x800 .f32) (arg1 : IVec S_ 32) : FVec F S256x1 .f32 :=
  let cst : FVec F S_ .f32 := constant S_ .f32 0x00000000#32
  let v0 : FVec F S256 .f32 := (fun x v => Host.reduceAdd x v reducesTo_S256x800_S256_d1 h_S_) arg0 cst
  let v1 : FVec F S256x1 .f32 := broadcastInDim S256x1 ![0] bcast_S256_S256x1_0 v0
  let cst_0 : FVec F S_ .f32 := constant S_ .f32 0x44480000#32
  let v2 : FVec F S256x1 .f32 := broadcastInDim S256x1 ![] bcast_S_S256x1 cst_0
  let v3 : FVec F S256x1 .f32 := Host.divf v1 v2
  let v4 : FVec F S256x800 .f32 := broadcastInDim S256x800 ![0, 1] bcast_S256x1_S256x800_0_1 v3
  let v5 : FVec F S256x800 .f32 := subf arg0 v4
  let v6 : FVec F S256x800 .f32 := mulf v5 v5
  let v7 : FVec F S_ .f32 := sitofp .f32 arg1
  let cst_1 : FVec F S_ .f32 := constant S_ .f32 0x44480000#32
  let v8 : FVec F S_ .f32 := subf cst_1 v7
  let cst_2 : FVec F S_ .f32 := constant S_ .f32 0x00000000#32
  let v9 : FVec F S256 .f32 := (fun x v => Host.reduceAdd x v reducesTo_S256x800_S256_d1 h_S_) v6 cst_2
  let v10 : FVec F S256x1 .f32 := broadcastInDim S256x1 ![0] bcast_S256_S256x1_0 v9
  let v11 : FVec F S256x1 .f32 := broadcastInDim S256x1 ![] bcast_S_S256x1 v8
  let v12 : FVec F S256x1 .f32 := Host.divf v10 v11
  let cst_3 : FVec F S_ .f32 := constant S_ .f32 0x00000000#32
  let v13 : IVec S_ 1 := cmpf .ogt v8 cst_3
  let cst_4 : FVec F S_ .f32 := constant S_ .f32 0x7FC00000#32
  let v14 : FVec F S256x1 .f32 := fn_where (F := F) v13 v12 cst_4
  v14

def fn_where_0 {F : FTy → Type} [FloatOps F] (arg0 : IVec S256x800 1) (arg1 : FVec F S256x800 .f32) (arg2 : FVec F S256x800 .f32) : FVec F S256x800 .f32 :=
  let v0 : FVec F S256x800 .f32 := select arg0 arg1 arg2
  v0

def fn_var_1 {F : FTy → Type} [FloatOps F] (arg0 : FVec F S256x571 .f32) (arg1 : IVec S_ 32) : FVec F S256x1 .f32 :=
  let cst : FVec F S_ .f32 := constant S_ .f32 0x00000000#32
  let v0 : FVec F S256 .f32 := (fun x v => Host.reduceAdd x v reducesTo_S256x571_S256_d1 h_S_) arg0 cst
  let v1 : FVec F S256x1 .f32 := broadcastInDim S256x1 ![0] bcast_S256_S256x1_0 v0
  let cst_0 : FVec F S_ .f32 := constant S_ .f32 0x440EC000#32
  let v2 : FVec F S256x1 .f32 := broadcastInDim S256x1 ![] bcast_S_S256x1 cst_0
  let v3 : FVec F S256x1 .f32 := Host.divf v1 v2
  let v4 : FVec F S256x571 .f32 := broadcastInDim S256x571 ![0, 1] bcast_S256x1_S256x571_0_1 v3
  let v5 : FVec F S256x571 .f32 := subf arg0 v4
  let v6 : FVec F S256x571 .f32 := mulf v5 v5
  let v7 : FVec F S_ .f32 := sitofp .f32 arg1
  let cst_1 : FVec F S_ .f32 := constant S_ .f32 0x440EC000#32
  let v8 : FVec F S_ .f32 := subf cst_1 v7
  let cst_2 : FVec F S_ .f32 := constant S_ .f32 0x00000000#32
  let v9 : FVec F S256 .f32 := (fun x v => Host.reduceAdd x v reducesTo_S256x571_S256_d1 h_S_) v6 cst_2
  let v10 : FVec F S256x1 .f32 := broadcastInDim S256x1 ![0] bcast_S256_S256x1_0 v9
  let v11 : FVec F S256x1 .f32 := broadcastInDim S256x1 ![] bcast_S_S256x1 v8
  let v12 : FVec F S256x1 .f32 := Host.divf v10 v11
  let cst_3 : FVec F S_ .f32 := constant S_ .f32 0x00000000#32
  let v13 : IVec S_ 1 := cmpf .ogt v8 cst_3
  let cst_4 : FVec F S_ .f32 := constant S_ .f32 0x7FC00000#32
  let v14 : FVec F S256x1 .f32 := fn_where (F := F) v13 v12 cst_4
  v14

def fn_where_2 {F : FTy → Type} [FloatOps F] (arg0 : IVec S256x571 1) (arg1 : FVec F S256x571 .f32) (arg2 : FVec F S256x571 .f32) : FVec F S256x571 .f32 :=
  let v0 : FVec F S256x571 .f32 := select arg0 arg1 arg2
  v0

def fn_var_3 {F : FTy → Type} [FloatOps F] (arg0 : FVec F S256x500 .f32) (arg1 : IVec S_ 32) : FVec F S256x1 .f32 :=
  let cst : FVec F S_ .f32 := constant S_ .f32 0x00000000#32
  let v0 : FVec F S256 .f32 := (fun x v => Host.reduceAdd x v reducesTo_S256x500_S256_d1 h_S_) arg0 cst
  let v1 : FVec F S256x1 .f32 := broadcastInDim S256x1 ![0] bcast_S256_S256x1_0 v0
  let cst_0 : FVec F S_ .f32 := constant S_ .f32 0x43FA0000#32
  let v2 : FVec F S256x1 .f32 := broadcastInDim S256x1 ![] bcast_S_S256x1 cst_0
  let v3 : FVec F S256x1 .f32 := Host.divf v1 v2
  let v4 : FVec F S256x500 .f32 := broadcastInDim S256x500 ![0, 1] bcast_S256x1_S256x500_0_1 v3
  let v5 : FVec F S256x500 .f32 := subf arg0 v4
  let v6 : FVec F S256x500 .f32 := mulf v5 v5
  let v7 : FVec F S_ .f32 := sitofp .f32 arg1
  let cst_1 : FVec F S_ .f32 := constant S_ .f32 0x43FA0000#32
  let v8 : FVec F S_ .f32 := subf cst_1 v7
  let cst_2 : FVec F S_ .f32 := constant S_ .f32 0x00000000#32
  let v9 : FVec F S256 .f32 := (fun x v => Host.reduceAdd x v reducesTo_S256x500_S256_d1 h_S_) v6 cst_2
  let v10 : FVec F S256x1 .f32 := broadcastInDim S256x1 ![0] bcast_S256_S256x1_0 v9
  let v11 : FVec F S256x1 .f32 := broadcastInDim S256x1 ![] bcast_S_S256x1 v8
  let v12 : FVec F S256x1 .f32 := Host.divf v10 v11
  let cst_3 : FVec F S_ .f32 := constant S_ .f32 0x00000000#32
  let v13 : IVec S_ 1 := cmpf .ogt v8 cst_3
  let cst_4 : FVec F S_ .f32 := constant S_ .f32 0x7FC00000#32
  let v14 : FVec F S256x1 .f32 := fn_where (F := F) v13 v12 cst_4
  v14

def fn_where_4 {F : FTy → Type} [FloatOps F] (arg0 : IVec S256x500 1) (arg1 : FVec F S256x500 .f32) (arg2 : FVec F S256x500 .f32) : FVec F S256x500 .f32 :=
  let v0 : FVec F S256x500 .f32 := select arg0 arg1 arg2
  v0

def fn_var_5 {F : FTy → Type} [FloatOps F] (arg0 : FVec F S256x250 .f32) (arg1 : IVec S_ 32) : FVec F S256x1 .f32 :=
  let cst : FVec F S_ .f32 := constant S_ .f32 0x00000000#32
  let v0 : FVec F S256 .f32 := (fun x v => Host.reduceAdd x v reducesTo_S256x250_S256_d1 h_S_) arg0 cst
  let v1 : FVec F S256x1 .f32 := broadcastInDim S256x1 ![0] bcast_S256_S256x1_0 v0
  let cst_0 : FVec F S_ .f32 := constant S_ .f32 0x437A0000#32
  let v2 : FVec F S256x1 .f32 := broadcastInDim S256x1 ![] bcast_S_S256x1 cst_0
  let v3 : FVec F S256x1 .f32 := Host.divf v1 v2
  let v4 : FVec F S256x250 .f32 := broadcastInDim S256x250 ![0, 1] bcast_S256x1_S256x250_0_1 v3
  let v5 : FVec F S256x250 .f32 := subf arg0 v4
  let v6 : FVec F S256x250 .f32 := mulf v5 v5
  let v7 : FVec F S_ .f32 := sitofp .f32 arg1
  let cst_1 : FVec F S_ .f32 := constant S_ .f32 0x437A0000#32
  let v8 : FVec F S_ .f32 := subf cst_1 v7
  let cst_2 : FVec F S_ .f32 := constant S_ .f32 0x00000000#32
  let v9 : FVec F S256 .f32 := (fun x v => Host.reduceAdd x v reducesTo_S256x250_S256_d1 h_S_) v6 cst_2
  let v10 : FVec F S256x1 .f32 := broadcastInDim S256x1 ![0] bcast_S256_S256x1_0 v9
  let v11 : FVec F S256x1 .f32 := broadcastInDim S256x1 ![] bcast_S_S256x1 v8
  let v12 : FVec F S256x1 .f32 := Host.divf v10 v11
  let cst_3 : FVec F S_ .f32 := constant S_ .f32 0x00000000#32
  let v13 : IVec S_ 1 := cmpf .ogt v8 cst_3
  let cst_4 : FVec F S_ .f32 := constant S_ .f32 0x7FC00000#32
  let v14 : FVec F S256x1 .f32 := fn_where (F := F) v13 v12 cst_4
  v14

def fn_part11 {F : FTy → Type} [FloatOps F] (main_v106 : FVec F S256x250 .f32) (main_v183 : IVec S_ 1) (main_v198 : IVec S256x250 1) (main_v200 : IVec S256x250 1) (main_v203 : FVec F S256x1 .f32) : IVec S_ 1 :=
  let main_v204 : FVec F S256x250 .f32 := broadcastInDim S256x250 ![0, 1] bcast_S256x1_S256x250_0_1 main_v203
  let main_v205 : IVec S256x250 1 := cmpf .ole main_v106 main_v204
  let main_v206 : IVec S256x250 1 := ori main_v200 main_v205
  let main_v207 : IVec S256x250 1 := andi main_v198 main_v206
  let main_c_56 : IVec S_ 1 := constantI S_ 1 1#1
  let main_v208 : IVec S_ 1 := (fun x v => Host.reduce IntOp.andi x v reducesTo_S256x250_S_d0_1 h_S_) main_v207 main_c_56
  let main_v209 : IVec S_ 1 := andi main_v183 main_v208
  main_v209

def fn_part10 {F : FTy → Type} [FloatOps F] (main_v106 : FVec F S256x250 .f32) (main_v183 : IVec S_ 1) (main_v184 : FVec F S256x1 .f32) (main_cst_50 : FVec F S_ .f32) : IVec S_ 1 :=
  let main_v185 : FVec F S256 .f32 := (fun x v => Host.reduce FloatOps.minimumf x v reducesTo_S256x250_S256_d1 h_S_) main_v106 main_cst_50
  let main_v186 : FVec F S256x1 .f32 := broadcastInDim S256x1 ![0] bcast_S256_S256x1_0 main_v185
  let main_cst_51 : FVec F S_ .f32 := constant S_ .f32 0xFF800000#32
  let main_v187 : FVec F S256 .f32 := (fun x v => Host.reduce FloatOps.maximumf x v reducesTo_S256x250_S256_d1 h_S_) main_v106 main_cst_51
  let main_v188 : FVec F S256x1 .f32 := broadcastInDim S256x1 ![0] bcast_S256_S256x1_0 main_v187
  let main_v189 : FVec F S256x1 .f32 := Host.absf main_v188
  let main_cst_52 : FVec F S_ .f32 := constant S_ .f32 0x3F800000#32
  let main_v190 : FVec F S256x1 .f32 := broadcastInDim S256x1 ![] bcast_S_S256x1 main_cst_52
  let main_v191 : FVec F S256x1 .f32 := addf main_v189 main_v190
  let main_cst_53 : FVec F S_ .f32 := constant S_ .f32 0x358637BD#32
  let main_v192 : FVec F S256x1 .f32 := broadcastInDim S256x1 ![] bcast_S_S256x1 main_cst_53
  let main_v193 : FVec F S256x1 .f32 := mulf main_v191 main_v192
  let main_v194 : FVec F S256x1 .f32 := addf main_v188 main_v193
  let main_v195 : FVec F S256x1 .f32 := subf main_v194 main_v186
  let main_v196 : FVec F S256x250 .f32 := Host.absf main_v106
  let main_cst_54 : FVec F S_ .f32 := constant S_ .f32 0x7F800000#32
  let main_v197 : FVec F S256x250 .f32 := broadcastInDim S256x250 ![] bcast_S_S256x250 main_cst_54
  let main_v198 : IVec S256x250 1 := cmpf .olt main_v196 main_v197
  let main_v199 : FVec F S256x250 .f32 := broadcastInDim S256x250 ![0, 1] bcast_S256x1_S256x250_0_1 main_v184
  let main_v200 : IVec S256x250 1 := cmpf .oge main_v106 main_v199
  let main_cst_55 : FVec F S_ .f32 := constant S_ .f32 0x35800000#32
  let main_v201 : FVec F S256x1 .f32 := broadcastInDim S256x1 ![] bcast_S_S256x1 main_cst_55
  let main_v202 : FVec F S256x1 .f32 := mulf main_v195 main_v201
  let main_v203 : FVec F S256x1 .f32 := subf main_v184 main_v202
  fn_part11 (F := F) main_v106 main_v183 main_v198 main_v200 main_v203

def fn_part9 {F : FTy → Type} [FloatOps F] (main_v78 : FVec F S256x500 .f32) (main_v106 : FVec F S256x250 .f32) (main_v157 : IVec S_ 1) (main_v158 : FVec F S256x1 .f32) (main_v160 : FVec F S256x1 .f32) (main_v162 : FVec F S256x1 .f32) (main_v165 : FVec F S256x1 .f32) (main_v166 : FVec F S256x1 .f32) : IVec S_ 1 :=
  let main_v167 : FVec F S256x1 .f32 := mulf main_v165 main_v166
  let main_v168 : FVec F S256x1 .f32 := addf main_v162 main_v167
  let main_v169 : FVec F S256x1 .f32 := subf main_v168 main_v160
  let main_v170 : FVec F S256x500 .f32 := Host.absf main_v78
  let main_cst_45 : FVec F S_ .f32 := constant S_ .f32 0x7F800000#32
  let main_v171 : FVec F S256x500 .f32 := broadcastInDim S256x500 ![] bcast_S_S256x500 main_cst_45
  let main_v172 : IVec S256x500 1 := cmpf .olt main_v170 main_v171
  let main_v173 : FVec F S256x500 .f32 := broadcastInDim S256x500 ![0, 1] bcast_S256x1_S256x500_0_1 main_v158
  let main_v174 : IVec S256x500 1 := cmpf .oge main_v78 main_v173
  let main_cst_46 : FVec F S_ .f32 := constant S_ .f32 0x35800000#32
  let main_v175 : FVec F S256x1 .f32 := broadcastInDim S256x1 ![] bcast_S_S256x1 main_cst_46
  let main_v176 : FVec F S256x1 .f32 := mulf main_v169 main_v175
  let main_v177 : FVec F S256x1 .f32 := subf main_v158 main_v176
  let main_v178 : FVec F S256x500 .f32 := broadcastInDim S256x500 ![0, 1] bcast_S256x1_S256x500_0_1 main_v177
  let main_v179 : IVec S256x500 1 := cmpf .ole main_v78 main_v178
  let main_v180 : IVec S256x500 1 := ori main_v174 main_v179
  let main_v181 : IVec S256x500 1 := andi main_v172 main_v180
  let main_c_47 : IVec S_ 1 := constantI S_ 1 1#1
  let main_v182 : IVec S_ 1 := (fun x v => Host.reduce IntOp.andi x v reducesTo_S256x500_S_d0_1 h_S_) main_v181 main_c_47
  let main_v183 : IVec S_ 1 := andi main_v157 main_v182
  let main_values_48 : FVec F S256x87 .f32 := (fun x => (Host.topK S256x87 1 (FloatOps.cmpfTotal .gt) x sliceFits_S256x250_S256x87).1) main_v106
  let main_indices_49 : IVec S256x87 32 := (fun x => (Host.topK S256x87 1 (FloatOps.cmpfTotal .gt) x sliceFits_S256x250_S256x87).2) main_v106
  let main_v184 : FVec F S256x1 .f32 := (extractStridedSlice S256x1 ![0, 86] · slices_S256x87_S256x1_0_86) main_values_48
  let main_cst_50 : FVec F S_ .f32 := constant S_ .f32 0x7F800000#32
  fn_part10 (F := F) main_v106 main_v183 main_v184 main_cst_50

def fn_part8 {F : FTy → Type} [FloatOps F] (main_v50 : FVec F S256x571 .f32) (main_v78 : FVec F S256x500 .f32) (main_v106 : FVec F S256x250 .f32) (main_v131 : IVec S_ 1) (main_v132 : FVec F S256x1 .f32) (main_v143 : FVec F S256x1 .f32) (main_v146 : IVec S256x571 1) (main_v148 : IVec S256x571 1) (main_v149 : FVec F S256x1 .f32) : IVec S_ 1 :=
  let main_v150 : FVec F S256x1 .f32 := mulf main_v143 main_v149
  let main_v151 : FVec F S256x1 .f32 := subf main_v132 main_v150
  let main_v152 : FVec F S256x571 .f32 := broadcastInDim S256x571 ![0, 1] bcast_S256x1_S256x571_0_1 main_v151
  let main_v153 : IVec S256x571 1 := cmpf .ole main_v50 main_v152
  let main_v154 : IVec S256x571 1 := ori main_v148 main_v153
  let main_v155 : IVec S256x571 1 := andi main_v146 main_v154
  let main_c_38 : IVec S_ 1 := constantI S_ 1 1#1
  let main_v156 : IVec S_ 1 := (fun x v => Host.reduce IntOp.andi x v reducesTo_S256x571_S_d0_1 h_S_) main_v155 main_c_38
  let main_v157 : IVec S_ 1 := andi main_v131 main_v156
  let main_values_39 : FVec F S256x175 .f32 := (fun x => (Host.topK S256x175 1 (FloatOps.cmpfTotal .gt) x sliceFits_S256x500_S256x175).1) main_v78
  let main_indices_40 : IVec S256x175 32 := (fun x => (Host.topK S256x175 1 (FloatOps.cmpfTotal .gt) x sliceFits_S256x500_S256x175).2) main_v78
  let main_v158 : FVec F S256x1 .f32 := (extractStridedSlice S256x1 ![0, 174] · slices_S256x175_S256x1_0_174) main_values_39
  let main_cst_41 : FVec F S_ .f32 := constant S_ .f32 0x7F800000#32
  let main_v159 : FVec F S256 .f32 := (fun x v => Host.reduce FloatOps.minimumf x v reducesTo_S256x500_S256_d1 h_S_) main_v78 main_cst_41
  let main_v160 : FVec F S256x1 .f32 := broadcastInDim S256x1 ![0] bcast_S256_S256x1_0 main_v159
  let main_cst_42 : FVec F S_ .f32 := constant S_ .f32 0xFF800000#32
  let main_v161 : FVec F S256 .f32 := (fun x v => Host.reduce FloatOps.maximumf x v reducesTo_S256x500_S256_d1 h_S_) main_v78 main_cst_42
  let main_v162 : FVec F S256x1 .f32 := broadcastInDim S256x1 ![0] bcast_S256_S256x1_0 main_v161
  let main_v163 : FVec F S256x1 .f32 := Host.absf main_v162
  let main_cst_43 : FVec F S_ .f32 := constant S_ .f32 0x3F800000#32
  let main_v164 : FVec F S256x1 .f32 := broadcastInDim S256x1 ![] bcast_S_S256x1 main_cst_43
  let main_v165 : FVec F S256x1 .f32 := addf main_v163 main_v164
  let main_cst_44 : FVec F S_ .f32 := constant S_ .f32 0x358637BD#32
  let main_v166 : FVec F S256x1 .f32 := broadcastInDim S256x1 ![] bcast_S_S256x1 main_cst_44
  fn_part9 (F := F) main_v78 main_v106 main_v157 main_v158 main_v160 main_v162 main_v165 main_v166

def fn_part7 {F : FTy → Type} [FloatOps F] (main_v50 : FVec F S256x571 .f32) (main_v78 : FVec F S256x500 .f32) (main_v106 : FVec F S256x250 .f32) (main_v131 : IVec S_ 1) (main_values_30 : FVec F S256x199 .f32) : IVec S_ 1 :=
  let main_v132 : FVec F S256x1 .f32 := (extractStridedSlice S256x1 ![0, 198] · slices_S256x199_S256x1_0_198) main_values_30
  let main_cst_32 : FVec F S_ .f32 := constant S_ .f32 0x7F800000#32
  let main_v133 : FVec F S256 .f32 := (fun x v => Host.reduce FloatOps.minimumf x v reducesTo_S256x571_S256_d1 h_S_) main_v50 main_cst_32
  let main_v134 : FVec F S256x1 .f32 := broadcastInDim S256x1 ![0] bcast_S256_S256x1_0 main_v133
  let main_cst_33 : FVec F S_ .f32 := constant S_ .f32 0xFF800000#32
  let main_v135 : FVec F S256 .f32 := (fun x v => Host.reduce FloatOps.maximumf x v reducesTo_S256x571_S256_d1 h_S_) main_v50 main_cst_33
  let main_v136 : FVec F S256x1 .f32 := broadcastInDim S256x1 ![0] bcast_S256_S256x1_0 main_v135
  let main_v137 : FVec F S256x1 .f32 := Host.absf main_v136
  let main_cst_34 : FVec F S_ .f32 := constant S_ .f32 0x3F800000#32
  let main_v138 : FVec F S256x1 .f32 := broadcastInDim S256x1 ![] bcast_S_S256x1 main_cst_34
  let main_v139 : FVec F S256x1 .f32 := addf main_v137 main_v138
  let main_cst_35 : FVec F S_ .f32 := constant S_ .f32 0x358637BD#32
  let main_v140 : FVec F S256x1 .f32 := broadcastInDim S256x1 ![] bcast_S_S256x1 main_cst_35
  let main_v141 : FVec F S256x1 .f32 := mulf main_v139 main_v140
  let main_v142 : FVec F S256x1 .f32 := addf main_v136 main_v141
  let main_v143 : FVec F S256x1 .f32 := subf main_v142 main_v134
  let main_v144 : FVec F S256x571 .f32 := Host.absf main_v50
  let main_cst_36 : FVec F S_ .f32 := constant S_ .f32 0x7F800000#32
  let main_v145 : FVec F S256x571 .f32 := broadcastInDim S256x571 ![] bcast_S_S256x571 main_cst_36
  let main_v146 : IVec S256x571 1 := cmpf .olt main_v144 main_v145
  let main_v147 : FVec F S256x571 .f32 := broadcastInDim S256x571 ![0, 1] bcast_S256x1_S256x571_0_1 main_v132
  let main_v148 : IVec S256x571 1 := cmpf .oge main_v50 main_v147
  let main_cst_37 : FVec F S_ .f32 := constant S_ .f32 0x35800000#32
  let main_v149 : FVec F S256x1 .f32 := broadcastInDim S256x1 ![] bcast_S_S256x1 main_cst_37
  fn_part8 (F := F) main_v50 main_v78 main_v106 main_v131 main_v132 main_v143 main_v146 main_v148 main_v149

def fn_part6 {F : FTy → Type} [FloatOps F] (main_v22 : FVec F S256x800 .f32) (main_v50 : FVec F S256x571 .f32) (main_v78 : FVec F S256x500 .f32) (main_v106 : FVec F S256x250 .f32) (main_v107 : FVec F S256x1 .f32) (main_v109 : FVec F S256x1 .f32) (main_v111 : FVec F S256x1 .f32) (main_v112 : FVec F S256x1 .f32) (main_v113 : FVec F S256x1 .f32) : IVec S_ 1 :=
  let main_v114 : FVec F S256x1 .f32 := addf main_v112 main_v113
  let main_cst_26 : FVec F S_ .f32 := constant S_ .f32 0x358637BD#32
  let main_v115 : FVec F S256x1 .f32 := broadcastInDim S256x1 ![] bcast_S_S256x1 main_cst_26
  let main_v116 : FVec F S256x1 .f32 := mulf main_v114 main_v115
  let main_v117 : FVec F S256x1 .f32 := addf main_v111 main_v116
  let main_v118 : FVec F S256x1 .f32 := subf main_v117 main_v109
  let main_v119 : FVec F S256x800 .f32 := Host.absf main_v22
  let main_cst_27 : FVec F S_ .f32 := constant S_ .f32 0x7F800000#32
  let main_v120 : FVec F S256x800 .f32 := broadcastInDim S256x800 ![] bcast_S_S256x800 main_cst_27
  let main_v121 : IVec S256x800 1 := cmpf .olt main_v119 main_v120
  let main_v122 : FVec F S256x800 .f32 := broadcastInDim S256x800 ![0, 1] bcast_S256x1_S256x800_0_1 main_v107
  let main_v123 : IVec S256x800 1 := cmpf .oge main_v22 main_v122
  let main_cst_28 : FVec F S_ .f32 := constant S_ .f32 0x35800000#32
  let main_v124 : FVec F S256x1 .f32 := broadcastInDim S256x1 ![] bcast_S_S256x1 main_cst_28
  let main_v125 : FVec F S256x1 .f32 := mulf main_v118 main_v124
  let main_v126 : FVec F S256x1 .f32 := subf main_v107 main_v125
  let main_v127 : FVec F S256x800 .f32 := broadcastInDim S256x800 ![0, 1] bcast_S256x1_S256x800_0_1 main_v126
  let main_v128 : IVec S256x800 1 := cmpf .ole main_v22 main_v127
  let main_v129 : IVec S256x800 1 := ori main_v123 main_v128
  let main_v130 : IVec S256x800 1 := andi main_v121 main_v129
  let main_c_29 : IVec S_ 1 := constantI S_ 1 1#1
  let main_v131 : IVec S_ 1 := (fun x v => Host.reduce IntOp.andi x v reducesTo_S256x800_S_d0_1 h_S_) main_v130 main_c_29
  let main_values_30 : FVec F S256x199 .f32 := (fun x => (Host.topK S256x199 1 (FloatOps.cmpfTotal .gt) x sliceFits_S256x571_S256x199).1) main_v50
  let main_indices_31 : IVec S256x199 32 := (fun x => (Host.topK S256x199 1 (FloatOps.cmpfTotal .gt) x sliceFits_S256x571_S256x199).2) main_v50
  fn_part7 (F := F) main_v50 main_v78 main_v106 main_v131 main_values_30

def fn_part5 {F : FTy → Type} [FloatOps F] (main_arg15 : FVec F S250 .f32) (main_arg16 : FVec F S250 .f32) (main_v22 : FVec F S256x800 .f32) (main_v50 : FVec F S256x571 .f32) (main_v78 : FVec F S256x500 .f32) (main_v93 : FVec F S256x1 .f32) (main_v95 : FVec F S256x250 .f32) : IVec S_ 1 :=
  let main_cst_20 : FVec F S_ .f32 := constant S_ .f32 0x3727C5AC#32
  let main_v96 : FVec F S256x1 .f32 := broadcastInDim S256x1 ![] bcast_S_S256x1 main_cst_20
  let main_v97 : FVec F S256x1 .f32 := addf main_v93 main_v96
  let main_v98 : FVec F S256x1 .f32 := Host.sqrt main_v97
  let main_v99 : FVec F S256x250 .f32 := broadcastInDim S256x250 ![0, 1] bcast_S256x1_S256x250_0_1 main_v98
  let main_v100 : FVec F S256x250 .f32 := Host.divf main_v95 main_v99
  let main_v101 : FVec F S1x250 .f32 := broadcastInDim S1x250 ![1] bcast_S250_S1x250_1 main_arg15
  let main_v102 : FVec F S256x250 .f32 := broadcastInDim S256x250 ![0, 1] bcast_S1x250_S256x250_0_1 main_v101
  let main_v103 : FVec F S256x250 .f32 := mulf main_v100 main_v102
  let main_v104 : FVec F S1x250 .f32 := broadcastInDim S1x250 ![1] bcast_S250_S1x250_1 main_arg16
  let main_v105 : FVec F S256x250 .f32 := broadcastInDim S256x250 ![0, 1] bcast_S1x250_S256x250_0_1 main_v104
  let main_v106 : FVec F S256x250 .f32 := addf main_v103 main_v105
  let main_values_21 : FVec F S256x280 .f32 := (fun x => (Host.topK S256x280 1 (FloatOps.cmpfTotal .gt) x sliceFits_S256x800_S256x280).1) main_v22
  let main_indices_22 : IVec S256x280 32 := (fun x => (Host.topK S256x280 1 (FloatOps.cmpfTotal .gt) x sliceFits_S256x800_S256x280).2) main_v22
  let main_v107 : FVec F S256x1 .f32 := (extractStridedSlice S256x1 ![0, 279] · slices_S256x280_S256x1_0_279) main_values_21
  let main_cst_23 : FVec F S_ .f32 := constant S_ .f32 0x7F800000#32
  let main_v108 : FVec F S256 .f32 := (fun x v => Host.reduce FloatOps.minimumf x v reducesTo_S256x800_S256_d1 h_S_) main_v22 main_cst_23
  let main_v109 : FVec F S256x1 .f32 := broadcastInDim S256x1 ![0] bcast_S256_S256x1_0 main_v108
  let main_cst_24 : FVec F S_ .f32 := constant S_ .f32 0xFF800000#32
  let main_v110 : FVec F S256 .f32 := (fun x v => Host.reduce FloatOps.maximumf x v reducesTo_S256x800_S256_d1 h_S_) main_v22 main_cst_24
  let main_v111 : FVec F S256x1 .f32 := broadcastInDim S256x1 ![0] bcast_S256_S256x1_0 main_v110
  let main_v112 : FVec F S256x1 .f32 := Host.absf main_v111
  let main_cst_25 : FVec F S_ .f32 := constant S_ .f32 0x3F800000#32
  let main_v113 : FVec F S256x1 .f32 := broadcastInDim S256x1 ![] bcast_S_S256x1 main_cst_25
  fn_part6 (F := F) main_v22 main_v50 main_v78 main_v106 main_v107 main_v109 main_v111 main_v112 main_v113

def fn_part4 {F : FTy → Type} [FloatOps F] (main_arg13 : FVec F S250x500 .f32) (main_arg14 : FVec F S250 .f32) (main_arg15 : FVec F S250 .f32) (main_arg16 : FVec F S250 .f32) (main_v22 : FVec F S256x800 .f32) (main_v50 : FVec F S256x571 .f32) (main_v75 : FVec F S256x500 .f32) (main_v77 : FVec F S256x500 .f32) : IVec S_ 1 :=
  let main_v78 : FVec F S256x500 .f32 := addf main_v75 main_v77
  let main_values_14 : FVec F S256x175 .f32 := (fun x => (Host.topK S256x175 1 (FloatOps.cmpfTotal .gt) x sliceFits_S256x500_S256x175).1) main_v78
  let main_indices_15 : IVec S256x175 32 := (fun x => (Host.topK S256x175 1 (FloatOps.cmpfTotal .gt) x sliceFits_S256x500_S256x175).2) main_v78
  let main_v79 : FVec F S256x1 .f32 := (extractStridedSlice S256x1 ![0, 174] · slices_S256x175_S256x1_0_174) main_values_14
  let main_v80 : FVec F S256x500 .f32 := broadcastInDim S256x500 ![0, 1] bcast_S256x1_S256x500_0_1 main_v79
  let main_v81 : IVec S256x500 1 := cmpf .oge main_v78 main_v80
  let main_cst_16 : FVec F S_ .f32 := constant S_ .f32 0x00000000#32
  let main_v82 : FVec F S256x500 .f32 := broadcastInDim S256x500 ![] bcast_S_S256x500 main_cst_16
  let main_v83 : FVec F S256x500 .f32 := fn_where_4 (F := F) main_v81 main_v78 main_v82
  let main_v84 : FVec F S500x250 .f32 := (transpose S500x250 [1, 0] · transposes_S250x500_S500x250_1_0) main_arg13
  let main_v85 : FVec F S256x250 .f32 := (fun l r => Host.dotGeneral dot_S256x500_S500x250_S256x250_1_0_0_1_n_n none l r) main_v83 main_v84
  let main_v86 : FVec F S1x250 .f32 := broadcastInDim S1x250 ![1] bcast_S250_S1x250_1 main_arg14
  let main_v87 : FVec F S256x250 .f32 := broadcastInDim S256x250 ![0, 1] bcast_S1x250_S256x250_0_1 main_v86
  let main_v88 : FVec F S256x250 .f32 := addf main_v85 main_v87
  let main_cst_17 : FVec F S_ .f32 := constant S_ .f32 0x00000000#32
  let main_v89 : FVec F S256 .f32 := (fun x v => Host.reduceAdd x v reducesTo_S256x250_S256_d1 h_S_) main_v88 main_cst_17
  let main_v90 : FVec F S256x1 .f32 := broadcastInDim S256x1 ![0] bcast_S256_S256x1_0 main_v89
  let main_cst_18 : FVec F S_ .f32 := constant S_ .f32 0x437A0000#32
  let main_v91 : FVec F S256x1 .f32 := broadcastInDim S256x1 ![] bcast_S_S256x1 main_cst_18
  let main_v92 : FVec F S256x1 .f32 := Host.divf main_v90 main_v91
  let main_c_19 : IVec S_ 32 := constantI S_ 32 0#32
  let main_v93 : FVec F S256x1 .f32 := fn_var_5 (F := F) main_v88 main_c_19
  let main_v94 : FVec F S256x250 .f32 := broadcastInDim S256x250 ![0, 1] bcast_S256x1_S256x250_0_1 main_v92
  let main_v95 : FVec F S256x250 .f32 := subf main_v88 main_v94
  fn_part5 (F := F) main_arg15 main_arg16 main_v22 main_v50 main_v78 main_v93 main_v95

def fn_part3 {F : FTy → Type} [FloatOps F] (main_arg10 : FVec F S500 .f32) (main_arg11 : FVec F S500 .f32) (main_arg12 : FVec F S500 .f32) (main_arg13 : FVec F S250x500 .f32) (main_arg14 : FVec F S250 .f32) (main_arg15 : FVec F S250 .f32) (main_arg16 : FVec F S250 .f32) (main_v22 : FVec F S256x800 .f32) (main_v50 : FVec F S256x571 .f32) (main_v57 : FVec F S256x500 .f32) : IVec S_ 1 :=
  let main_v58 : FVec F S1x500 .f32 := broadcastInDim S1x500 ![1] bcast_S500_S1x500_1 main_arg10
  let main_v59 : FVec F S256x500 .f32 := broadcastInDim S256x500 ![0, 1] bcast_S1x500_S256x500_0_1 main_v58
  let main_v60 : FVec F S256x500 .f32 := addf main_v57 main_v59
  let main_cst_10 : FVec F S_ .f32 := constant S_ .f32 0x00000000#32
  let main_v61 : FVec F S256 .f32 := (fun x v => Host.reduceAdd x v reducesTo_S256x500_S256_d1 h_S_) main_v60 main_cst_10
  let main_v62 : FVec F S256x1 .f32 := broadcastInDim S256x1 ![0] bcast_S256_S256x1_0 main_v61
  let main_cst_11 : FVec F S_ .f32 := constant S_ .f32 0x43FA0000#32
  let main_v63 : FVec F S256x1 .f32 := broadcastInDim S256x1 ![] bcast_S_S256x1 main_cst_11
  let main_v64 : FVec F S256x1 .f32 := Host.divf main_v62 main_v63
  let main_c_12 : IVec S_ 32 := constantI S_ 32 0#32
  let main_v65 : FVec F S256x1 .f32 := fn_var_3 (F := F) main_v60 main_c_12
  let main_v66 : FVec F S256x500 .f32 := broadcastInDim S256x500 ![0, 1] bcast_S256x1_S256x500_0_1 main_v64
  let main_v67 : FVec F S256x500 .f32 := subf main_v60 main_v66
  let main_cst_13 : FVec F S_ .f32 := constant S_ .f32 0x3727C5AC#32
  let main_v68 : FVec F S256x1 .f32 := broadcastInDim S256x1 ![] bcast_S_S256x1 main_cst_13
  let main_v69 : FVec F S256x1 .f32 := addf main_v65 main_v68
  let main_v70 : FVec F S256x1 .f32 := Host.sqrt main_v69
  let main_v71 : FVec F S256x500 .f32 := broadcastInDim S256x500 ![0, 1] bcast_S256x1_S256x500_0_1 main_v70
  let main_v72 : FVec F S256x500 .f32 := Host.divf main_v67 main_v71
  let main_v73 : FVec F S1x500 .f32 := broadcastInDim S1x500 ![1] bcast_S500_S1x500_1 main_arg11
  let main_v74 : FVec F S256x500 .f32 := broadcastInDim S256x500 ![0, 1] bcast_S1x500_S256x500_0_1 main_v73
  let main_v75 : FVec F S256x500 .f32 := mulf main_v72 main_v74
  let main_v76 : FVec F S1x500 .f32 := broadcastInDim S1x500 ![1] bcast_S500_S1x500_1 main_arg12
  let main_v77 : FVec F S256x500 .f32 := broadcastInDim S256x500 ![0, 1] bcast_S1x500_S256x500_0_1 main_v76
  fn_part4 (F := F) main_arg13 main_arg14 main_arg15 main_arg16 main_v22 main_v50 main_v75 main_v77

def fn_part2 {F : FTy → Type} [FloatOps F] (main_arg7 : FVec F S571 .f32) (main_arg8 : FVec F S571 .f32) (main_arg9 : FVec F S500x571 .f32) (main_arg10 : FVec F S500 .f32) (main_arg11 : FVec F S500 .f32) (main_arg12 : FVec F S500 .f32) (main_arg13 : FVec F S250x500 .f32) (main_arg14 : FVec F S250 .f32) (main_arg15 : FVec F S250 .f32) (main_arg16 : FVec F S250 .f32) (main_v22 : FVec F S256x800 .f32) (main_v32 : FVec F S256x571 .f32) (main_v36 : FVec F S256x1 .f32) (main_v37 : FVec F S256x1 .f32) : IVec S_ 1 :=
  let main_v38 : FVec F S256x571 .f32 := broadcastInDim S256x571 ![0, 1] bcast_S256x1_S256x571_0_1 main_v36
  let main_v39 : FVec F S256x571 .f32 := subf main_v32 main_v38
  let main_cst_6 : FVec F S_ .f32 := constant S_ .f32 0x3727C5AC#32
  let main_v40 : FVec F S256x1 .f32 := broadcastInDim S256x1 ![] bcast_S_S256x1 main_cst_6
  let main_v41 : FVec F S256x1 .f32 := addf main_v37 main_v40
  let main_v42 : FVec F S256x1 .f32 := Host.sqrt main_v41
  let main_v43 : FVec F S256x571 .f32 := broadcastInDim S256x571 ![0, 1] bcast_S256x1_S256x571_0_1 main_v42
  let main_v44 : FVec F S256x571 .f32 := Host.divf main_v39 main_v43
  let main_v45 : FVec F S1x571 .f32 := broadcastInDim S1x571 ![1] bcast_S571_S1x571_1 main_arg7
  let main_v46 : FVec F S256x571 .f32 := broadcastInDim S256x571 ![0, 1] bcast_S1x571_S256x571_0_1 main_v45
  let main_v47 : FVec F S256x571 .f32 := mulf main_v44 main_v46
  let main_v48 : FVec F S1x571 .f32 := broadcastInDim S1x571 ![1] bcast_S571_S1x571_1 main_arg8
  let main_v49 : FVec F S256x571 .f32 := broadcastInDim S256x571 ![0, 1] bcast_S1x571_S256x571_0_1 main_v48
  let main_v50 : FVec F S256x571 .f32 := addf main_v47 main_v49
  let main_values_7 : FVec F S256x199 .f32 := (fun x => (Host.topK S256x199 1 (FloatOps.cmpfTotal .gt) x sliceFits_S256x571_S256x199).1) main_v50
  let main_indices_8 : IVec S256x199 32 := (fun x => (Host.topK S256x199 1 (FloatOps.cmpfTotal .gt) x sliceFits_S256x571_S256x199).2) main_v50
  let main_v51 : FVec F S256x1 .f32 := (extractStridedSlice S256x1 ![0, 198] · slices_S256x199_S256x1_0_198) main_values_7
  let main_v52 : FVec F S256x571 .f32 := broadcastInDim S256x571 ![0, 1] bcast_S256x1_S256x571_0_1 main_v51
  let main_v53 : IVec S256x571 1 := cmpf .oge main_v50 main_v52
  let main_cst_9 : FVec F S_ .f32 := constant S_ .f32 0x00000000#32
  let main_v54 : FVec F S256x571 .f32 := broadcastInDim S256x571 ![] bcast_S_S256x571 main_cst_9
  let main_v55 : FVec F S256x571 .f32 := fn_where_2 (F := F) main_v53 main_v50 main_v54
  let main_v56 : FVec F S571x500 .f32 := (transpose S571x500 [1, 0] · transposes_S500x571_S571x500_1_0) main_arg9
  let main_v57 : FVec F S256x500 .f32 := (fun l r => Host.dotGeneral dot_S256x571_S571x500_S256x500_1_0_0_1_n_n none l r) main_v55 main_v56
  fn_part3 (F := F) main_arg10 main_arg11 main_arg12 main_arg13 main_arg14 main_arg15 main_arg16 main_v22 main_v50 main_v57

def fn_part1 {F : FTy → Type} [FloatOps F] (main_arg4 : FVec F S800 .f32) (main_arg5 : FVec F S571x800 .f32) (main_arg6 : FVec F S571 .f32) (main_arg7 : FVec F S571 .f32) (main_arg8 : FVec F S571 .f32) (main_arg9 : FVec F S500x571 .f32) (main_arg10 : FVec F S500 .f32) (main_arg11 : FVec F S500 .f32) (main_arg12 : FVec F S500 .f32) (main_arg13 : FVec F S250x500 .f32) (main_arg14 : FVec F S250 .f32) (main_arg15 : FVec F S250 .f32) (main_arg16 : FVec F S250 .f32) (main_v19 : FVec F S256x800 .f32) : IVec S_ 1 :=
  let main_v20 : FVec F S1x800 .f32 := broadcastInDim S1x800 ![1] bcast_S800_S1x800_1 main_arg4
  let main_v21 : FVec F S256x800 .f32 := broadcastInDim S256x800 ![0, 1] bcast_S1x800_S256x800_0_1 main_v20
  let main_v22 : FVec F S256x800 .f32 := addf main_v19 main_v21
  let main_values : FVec F S256x280 .f32 := (fun x => (Host.topK S256x280 1 (FloatOps.cmpfTotal .gt) x sliceFits_S256x800_S256x280).1) main_v22
  let main_indices : IVec S256x280 32 := (fun x => (Host.topK S256x280 1 (FloatOps.cmpfTotal .gt) x sliceFits_S256x800_S256x280).2) main_v22
  let main_v23 : FVec F S256x1 .f32 := (extractStridedSlice S256x1 ![0, 279] · slices_S256x280_S256x1_0_279) main_values
  let main_v24 : FVec F S256x800 .f32 := broadcastInDim S256x800 ![0, 1] bcast_S256x1_S256x800_0_1 main_v23
  let main_v25 : IVec S256x800 1 := cmpf .oge main_v22 main_v24
  let main_cst_2 : FVec F S_ .f32 := constant S_ .f32 0x00000000#32
  let main_v26 : FVec F S256x800 .f32 := broadcastInDim S256x800 ![] bcast_S_S256x800 main_cst_2
  let main_v27 : FVec F S256x800 .f32 := fn_where_0 (F := F) main_v25 main_v22 main_v26
  let main_v28 : FVec F S800x571 .f32 := (transpose S800x571 [1, 0] · transposes_S571x800_S800x571_1_0) main_arg5
  let main_v29 : FVec F S256x571 .f32 := (fun l r => Host.dotGeneral dot_S256x800_S800x571_S256x571_1_0_0_1_n_n none l r) main_v27 main_v28
  let main_v30 : FVec F S1x571 .f32 := broadcastInDim S1x571 ![1] bcast_S571_S1x571_1 main_arg6
  let main_v31 : FVec F S256x571 .f32 := broadcastInDim S256x571 ![0, 1] bcast_S1x571_S256x571_0_1 main_v30
  let main_v32 : FVec F S256x571 .f32 := addf main_v29 main_v31
  let main_cst_3 : FVec F S_ .f32 := constant S_ .f32 0x00000000#32
  let main_v33 : FVec F S256 .f32 := (fun x v => Host.reduceAdd x v reducesTo_S256x571_S256_d1 h_S_) main_v32 main_cst_3
  let main_v34 : FVec F S256x1 .f32 := broadcastInDim S256x1 ![0] bcast_S256_S256x1_0 main_v33
  let main_cst_4 : FVec F S_ .f32 := constant S_ .f32 0x440EC000#32
  let main_v35 : FVec F S256x1 .f32 := broadcastInDim S256x1 ![] bcast_S_S256x1 main_cst_4
  let main_v36 : FVec F S256x1 .f32 := Host.divf main_v34 main_v35
  let main_c_5 : IVec S_ 32 := constantI S_ 32 0#32
  let main_v37 : FVec F S256x1 .f32 := fn_var_1 (F := F) main_v32 main_c_5
  fn_part2 (F := F) main_arg7 main_arg8 main_arg9 main_arg10 main_arg11 main_arg12 main_arg13 main_arg14 main_arg15 main_arg16 main_v22 main_v32 main_v36 main_v37

def fn {F : FTy → Type} [FloatOps F] (main_arg0 : FVec F S256x100000 .f32) (main_arg1 : FVec F S800x100000 .f32) (main_arg2 : FVec F S800 .f32) (main_arg3 : FVec F S800 .f32) (main_arg4 : FVec F S800 .f32) (main_arg5 : FVec F S571x800 .f32) (main_arg6 : FVec F S571 .f32) (main_arg7 : FVec F S571 .f32) (main_arg8 : FVec F S571 .f32) (main_arg9 : FVec F S500x571 .f32) (main_arg10 : FVec F S500 .f32) (main_arg11 : FVec F S500 .f32) (main_arg12 : FVec F S500 .f32) (main_arg13 : FVec F S250x500 .f32) (main_arg14 : FVec F S250 .f32) (main_arg15 : FVec F S250 .f32) (main_arg16 : FVec F S250 .f32) (main_arg17 : FVec F S250x250 .f32) (main_arg18 : FVec F S250 .f32) : IVec S_ 1 :=
  let main_v0 : FVec F S100000x800 .f32 := (transpose S100000x800 [1, 0] · transposes_S800x100000_S100000x800_1_0) main_arg1
  let main_v1 : FVec F S256x800 .f32 := (fun l r => Host.dotGeneral dot_S256x100000_S100000x800_S256x800_1_0_0_1_n_n none l r) main_arg0 main_v0
  let main_v2 : FVec F S1x800 .f32 := broadcastInDim S1x800 ![1] bcast_S800_S1x800_1 main_arg2
  let main_v3 : FVec F S256x800 .f32 := broadcastInDim S256x800 ![0, 1] bcast_S1x800_S256x800_0_1 main_v2
  let main_v4 : FVec F S256x800 .f32 := addf main_v1 main_v3
  let main_cst : FVec F S_ .f32 := constant S_ .f32 0x00000000#32
  let main_v5 : FVec F S256 .f32 := (fun x v => Host.reduceAdd x v reducesTo_S256x800_S256_d1 h_S_) main_v4 main_cst
  let main_v6 : FVec F S256x1 .f32 := broadcastInDim S256x1 ![0] bcast_S256_S256x1_0 main_v5
  let main_cst_0 : FVec F S_ .f32 := constant S_ .f32 0x44480000#32
  let main_v7 : FVec F S256x1 .f32 := broadcastInDim S256x1 ![] bcast_S_S256x1 main_cst_0
  let main_v8 : FVec F S256x1 .f32 := Host.divf main_v6 main_v7
  let main_c : IVec S_ 32 := constantI S_ 32 0#32
  let main_v9 : FVec F S256x1 .f32 := fn_var (F := F) main_v4 main_c
  let main_v10 : FVec F S256x800 .f32 := broadcastInDim S256x800 ![0, 1] bcast_S256x1_S256x800_0_1 main_v8
  let main_v11 : FVec F S256x800 .f32 := subf main_v4 main_v10
  let main_cst_1 : FVec F S_ .f32 := constant S_ .f32 0x3727C5AC#32
  let main_v12 : FVec F S256x1 .f32 := broadcastInDim S256x1 ![] bcast_S_S256x1 main_cst_1
  let main_v13 : FVec F S256x1 .f32 := addf main_v9 main_v12
  let main_v14 : FVec F S256x1 .f32 := Host.sqrt main_v13
  let main_v15 : FVec F S256x800 .f32 := broadcastInDim S256x800 ![0, 1] bcast_S256x1_S256x800_0_1 main_v14
  let main_v16 : FVec F S256x800 .f32 := Host.divf main_v11 main_v15
  let main_v17 : FVec F S1x800 .f32 := broadcastInDim S1x800 ![1] bcast_S800_S1x800_1 main_arg3
  let main_v18 : FVec F S256x800 .f32 := broadcastInDim S256x800 ![0, 1] bcast_S1x800_S256x800_0_1 main_v17
  let main_v19 : FVec F S256x800 .f32 := mulf main_v16 main_v18
  fn_part1 (F := F) main_arg4 main_arg5 main_arg6 main_arg7 main_arg8 main_arg9 main_arg10 main_arg11 main_arg12 main_arg13 main_arg14 main_arg15 main_arg16 main_v19
-- ==== Kernel.lean ====
abbrev S256x100000 : Shape := ⟨2, ![256, 100000]⟩
abbrev S800x100000 : Shape := ⟨2, ![800, 100000]⟩
abbrev S800 : Shape := ⟨1, ![800]⟩
abbrev S571x800 : Shape := ⟨2, ![571, 800]⟩
abbrev S571 : Shape := ⟨1, ![571]⟩
abbrev S500x571 : Shape := ⟨2, ![500, 571]⟩
abbrev S500 : Shape := ⟨1, ![500]⟩
abbrev S250x500 : Shape := ⟨2, ![250, 500]⟩
abbrev S250 : Shape := ⟨1, ![250]⟩
abbrev S250x250 : Shape := ⟨2, ![250, 250]⟩
abbrev S1x800 : Shape := ⟨2, ![1, 800]⟩
abbrev S1x571 : Shape := ⟨2, ![1, 571]⟩
abbrev S1x500 : Shape := ⟨2, ![1, 500]⟩
abbrev S1x250 : Shape := ⟨2, ![1, 250]⟩
abbrev S256x250 : Shape := ⟨2, ![256, 250]⟩
abbrev S256x4096 : Shape := ⟨2, ![256, 4096]⟩
abbrev S800x4096 : Shape := ⟨2, ![800, 4096]⟩
abbrev S256x800 : Shape := ⟨2, ![256, 800]⟩
abbrev S256 : Shape := ⟨1, ![256]⟩
abbrev S256x1 : Shape := ⟨2, ![256, 1]⟩
abbrev S256x571 : Shape := ⟨2, ![256, 571]⟩
abbrev S256x500 : Shape := ⟨2, ![256, 500]⟩

abbrev nBuf : Space → Nat
  | .hbm => 33
  | .vmem => 23
  | .smem => 0
  | _ => 0

abbrev bufTy : (tb : Table) → Fin (tcTables nBuf tb) → BufTy
  | .hbm, ⟨0, _⟩ => ⟨S256x100000, .f32⟩
  | .hbm, ⟨1, _⟩ => ⟨S800x100000, .f32⟩
  | .hbm, ⟨2, _⟩ => ⟨S800, .f32⟩
  | .hbm, ⟨3, _⟩ => ⟨S800, .f32⟩
  | .hbm, ⟨4, _⟩ => ⟨S800, .f32⟩
  | .hbm, ⟨5, _⟩ => ⟨S571x800, .f32⟩
  | .hbm, ⟨6, _⟩ => ⟨S571, .f32⟩
  | .hbm, ⟨7, _⟩ => ⟨S571, .f32⟩
  | .hbm, ⟨8, _⟩ => ⟨S571, .f32⟩
  | .hbm, ⟨9, _⟩ => ⟨S500x571, .f32⟩
  | .hbm, ⟨10, _⟩ => ⟨S500, .f32⟩
  | .hbm, ⟨11, _⟩ => ⟨S500, .f32⟩
  | .hbm, ⟨12, _⟩ => ⟨S500, .f32⟩
  | .hbm, ⟨13, _⟩ => ⟨S250x500, .f32⟩
  | .hbm, ⟨14, _⟩ => ⟨S250, .f32⟩
  | .hbm, ⟨15, _⟩ => ⟨S250, .f32⟩
  | .hbm, ⟨16, _⟩ => ⟨S250, .f32⟩
  | .hbm, ⟨17, _⟩ => ⟨S250x250, .f32⟩
  | .hbm, ⟨18, _⟩ => ⟨S250, .f32⟩
  | .hbm, ⟨19, _⟩ => ⟨S1x800, .f32⟩
  | .hbm, ⟨20, _⟩ => ⟨S1x800, .f32⟩
  | .hbm, ⟨21, _⟩ => ⟨S1x800, .f32⟩
  | .hbm, ⟨22, _⟩ => ⟨S1x571, .f32⟩
  | .hbm, ⟨23, _⟩ => ⟨S1x571, .f32⟩
  | .hbm, ⟨24, _⟩ => ⟨S1x571, .f32⟩
  | .hbm, ⟨25, _⟩ => ⟨S1x500, .f32⟩
  | .hbm, ⟨26, _⟩ => ⟨S1x500, .f32⟩
  | .hbm, ⟨27, _⟩ => ⟨S1x500, .f32⟩
  | .hbm, ⟨28, _⟩ => ⟨S1x250, .f32⟩
  | .hbm, ⟨29, _⟩ => ⟨S1x250, .f32⟩
  | .hbm, ⟨30, _⟩ => ⟨S1x250, .f32⟩
  | .hbm, ⟨31, _⟩ => ⟨S1x250, .f32⟩
  | .hbm, ⟨32, _⟩ => ⟨S256x250, .f32⟩
  | .local _ .vmem, ⟨0, _⟩ => ⟨S256x4096, .f32⟩
  | .local _ .vmem, ⟨1, _⟩ => ⟨S256x4096, .f32⟩
  | .local _ .vmem, ⟨2, _⟩ => ⟨S800x4096, .f32⟩
  | .local _ .vmem, ⟨3, _⟩ => ⟨S800x4096, .f32⟩
  | .local _ .vmem, ⟨4, _⟩ => ⟨S1x800, .f32⟩
  | .local _ .vmem, ⟨5, _⟩ => ⟨S1x800, .f32⟩
  | .local _ .vmem, ⟨6, _⟩ => ⟨S1x800, .f32⟩
  | .local _ .vmem, ⟨7, _⟩ => ⟨S571x800, .f32⟩
  | .local _ .vmem, ⟨8, _⟩ => ⟨S1x571, .f32⟩
  | .local _ .vmem, ⟨9, _⟩ => ⟨S1x571, .f32⟩
  | .local _ .vmem, ⟨10, _⟩ => ⟨S1x571, .f32⟩
  | .local _ .vmem, ⟨11, _⟩ => ⟨S500x571, .f32⟩
  | .local _ .vmem, ⟨12, _⟩ => ⟨S1x500, .f32⟩
  | .local _ .vmem, ⟨13, _⟩ => ⟨S1x500, .f32⟩
  | .local _ .vmem, ⟨14, _⟩ => ⟨S1x500, .f32⟩
  | .local _ .vmem, ⟨15, _⟩ => ⟨S250x500, .f32⟩
  | .local _ .vmem, ⟨16, _⟩ => ⟨S1x250, .f32⟩
  | .local _ .vmem, ⟨17, _⟩ => ⟨S1x250, .f32⟩
  | .local _ .vmem, ⟨18, _⟩ => ⟨S1x250, .f32⟩
  | .local _ .vmem, ⟨19, _⟩ => ⟨S250x250, .f32⟩
  | .local _ .vmem, ⟨20, _⟩ => ⟨S1x250, .f32⟩
  | .local _ .vmem, ⟨21, _⟩ => ⟨S256x250, .f32⟩
  | .local _ .vmem, ⟨22, _⟩ => ⟨S256x800, .f32⟩
  | _, _ => ⟨S256x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21

abbrev nD : Nat := 1
abbrev τ : Topo := Topo.v7x

variable {F : FTy → Type} [FloatOps F]

abbrev grid0 : Pipeline.Grid := ⟨1, ![25], ![false]⟩

def k0_cond3 (i : grid0.Coords) : BitVec 1 :=
  let arg0 : BitVec 32 := BitVec.ofNat 32 (i 0).val
  let c24_i32_2 : BitVec 32 := 24#32
  let v6 : BitVec 1 := Scalar.cmpi .eq arg0 c24_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S800x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x800 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x800 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x800 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S571x800 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x571 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x571 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x571 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S500x571 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x500 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x500 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x500 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S250x500 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x250 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x250 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x250 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S250x250 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x250 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S256x250 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== ReferenceIdeal.lean ====
abbrev S256x100000 : Shape := ⟨2, ![256, 100000]⟩
abbrev S800x100000 : Shape := ⟨2, ![800, 100000]⟩
abbrev S800 : Shape := ⟨1, ![800]⟩
abbrev S571x800 : Shape := ⟨2, ![571, 800]⟩
abbrev S571 : Shape := ⟨1, ![571]⟩
abbrev S500x571 : Shape := ⟨2, ![500, 571]⟩
abbrev S500 : Shape := ⟨1, ![500]⟩
abbrev S250x500 : Shape := ⟨2, ![250, 500]⟩
abbrev S250 : Shape := ⟨1, ![250]⟩
abbrev S250x250 : Shape := ⟨2, ![250, 250]⟩
abbrev S100000x800 : Shape := ⟨2, ![100000, 800]⟩
abbrev S256x800 : Shape := ⟨2, ![256, 800]⟩
abbrev S1x800 : Shape := ⟨2, ![1, 800]⟩
abbrev S_ : Shape := ⟨0, ![]⟩
abbrev S256 : Shape := ⟨1, ![256]⟩
abbrev S256x1 : Shape := ⟨2, ![256, 1]⟩
abbrev S256x280 : Shape := ⟨2, ![256, 280]⟩
abbrev S800x571 : Shape := ⟨2, ![800, 571]⟩
abbrev S256x571 : Shape := ⟨2, ![256, 571]⟩
abbrev S1x571 : Shape := ⟨2, ![1, 571]⟩
abbrev S256x199 : Shape := ⟨2, ![256, 199]⟩
abbrev S571x500 : Shape := ⟨2, ![571, 500]⟩
abbrev S256x500 : Shape := ⟨2, ![256, 500]⟩
abbrev S1x500 : Shape := ⟨2, ![1, 500]⟩
abbrev S256x175 : Shape := ⟨2, ![256, 175]⟩
abbrev S500x250 : Shape := ⟨2, ![500, 250]⟩
abbrev S256x250 : Shape := ⟨2, ![256, 250]⟩
abbrev S1x250 : Shape := ⟨2, ![1, 250]⟩
abbrev S256x87 : Shape := ⟨2, ![256, 87]⟩

abbrev nBuf : Space → Nat
  | .hbm => 252
  | .vmem => 0
  | .smem => 0
  | _ => 0

abbrev hbmTy0_0 (i : Nat) : BufTy := match i % 128 with
  | 0 => ⟨S256x100000, .f32⟩
  | 1 => ⟨S800x100000, .f32⟩
  | 2 => ⟨S800, .f32⟩
  | 3 => ⟨S800, .f32⟩
  | 4 => ⟨S800, .f32⟩
  | 5 => ⟨S571x800, .f32⟩
  | 6 => ⟨S571, .f32⟩
  | 7 => ⟨S571, .f32⟩
  | 8 => ⟨S571, .f32⟩
  | 9 => ⟨S500x571, .f32⟩
  | 10 => ⟨S500, .f32⟩
  | 11 => ⟨S500, .f32⟩
  | 12 => ⟨S500, .f32⟩
  | 13 => ⟨S250x500, .f32⟩
  | 14 => ⟨S250, .f32⟩
  | 15 => ⟨S250, .f32⟩
  | 16 => ⟨S250, .f32⟩
  | 17 => ⟨S250x250, .f32⟩
  | 18 => ⟨S250, .f32⟩
  | 19 => ⟨S100000x800, .f32⟩
  | 20 => ⟨S256x800, .f32⟩
  | 21 => ⟨S1x800, .f32⟩
  | 22 => ⟨S256x800, .f32⟩
  | 23 => ⟨S256x800, .f32⟩
  | 24 => ⟨S_, .f32⟩
  | 25 => ⟨S256, .f32⟩
  | 26 => ⟨S256x1, .f32⟩
  | 27 => ⟨S_, .f32⟩
  | 28 => ⟨S256x1, .f32⟩
  | 29 => ⟨S256x1, .f32⟩
  | 30 => ⟨S_, .i32⟩
  | 31 => ⟨S_, .f32⟩
  | 32 => ⟨S256, .f32⟩
  | 33 => ⟨S256x1, .f32⟩
  | 34 => ⟨S_, .f32⟩
  | 35 => ⟨S256x1, .f32⟩
  | 36 => ⟨S256x1, .f32⟩
  | 37 => ⟨S256x800, .f32⟩
  | 38 => ⟨S256x800, .f32⟩
  | 39 => ⟨S256x800, .f32⟩
  | 40 => ⟨S_, .f32⟩
  | 41 => ⟨S_, .f32⟩
  | 42 => ⟨S_, .f32⟩
  | 43 => ⟨S_, .f32⟩
  | 44 => ⟨S256, .f32⟩
  | 45 => ⟨S256x1, .f32⟩
  | 46 => ⟨S256x1, .f32⟩
  | 47 => ⟨S256x1, .f32⟩
  | 48 => ⟨S_, .f32⟩
  | 49 => ⟨S_, .i1⟩
  | 50 => ⟨S_, .f32⟩
  | 51 => ⟨S_, .f32⟩
  | 52 => ⟨S256x1, .f32⟩
  | 53 => ⟨S256x1, .f32⟩
  | 54 => ⟨S256x800, .f32⟩
  | 55 => ⟨S256x800, .f32⟩
  | 56 => ⟨S_, .f32⟩
  | 57 => ⟨S256x1, .f32⟩
  | 58 => ⟨S256x1, .f32⟩
  | 59 => ⟨S256x1, .f32⟩
  | 60 => ⟨S256x800, .f32⟩
  | 61 => ⟨S256x800, .f32⟩
  | 62 => ⟨S1x800, .f32⟩
  | 63 => ⟨S256x800, .f32⟩
  | 64 => ⟨S256x800, .f32⟩
  | 65 => ⟨S1x800, .f32⟩
  | 66 => ⟨S256x800, .f32⟩
  | 67 => ⟨S256x800, .f32⟩
  | 68 => ⟨S256x280, .f32⟩
  | 69 => ⟨S256x280, .i32⟩
  | 70 => ⟨S256x1, .f32⟩
  | 71 => ⟨S256x800, .f32⟩
  | 72 => ⟨S256x800, .i1⟩
  | 73 => ⟨S_, .f32⟩
  | 74 => ⟨S256x800, .f32⟩
  | 75 => ⟨S256x800, .f32⟩
  | 76 => ⟨S800x571, .f32⟩
  | 77 => ⟨S256x571, .f32⟩
  | 78 => ⟨S1x571, .f32⟩
  | 79 => ⟨S256x571, .f32⟩
  | 80 => ⟨S256x571, .f32⟩
  | 81 => ⟨S_, .f32⟩
  | 82 => ⟨S256, .f32⟩
  | 83 => ⟨S256x1, .f32⟩
  | 84 => ⟨S_, .f32⟩
  | 85 => ⟨S256x1, .f32⟩
  | 86 => ⟨S256x1, .f32⟩
  | 87 => ⟨S_, .i32⟩
  | 88 => ⟨S_, .f32⟩
  | 89 => ⟨S256, .f32⟩
  | 90 => ⟨S256x1, .f32⟩
  | 91 => ⟨S_, .f32⟩
  | 92 => ⟨S256x1, .f32⟩
  | 93 => ⟨S256x1, .f32⟩
  | 94 => ⟨S256x571, .f32⟩
  | 95 => ⟨S256x571, .f32⟩
  | 96 => ⟨S256x571, .f32⟩
  | 97 => ⟨S_, .f32⟩
  | 98 => ⟨S_, .f32⟩
  | 99 => ⟨S_, .f32⟩
  | 100 => ⟨S_, .f32⟩
  | 101 => ⟨S256, .f32⟩
  | 102 => ⟨S256x1, .f32⟩
  | 103 => ⟨S256x1, .f32⟩
  | 104 => ⟨S256x1, .f32⟩
  | 105 => ⟨S_, .f32⟩
  | 106 => ⟨S_, .i1⟩
  | 107 => ⟨S_, .f32⟩
  | 108 => ⟨S_, .f32⟩
  | 109 => ⟨S256x1, .f32⟩
  | 110 => ⟨S256x1, .f32⟩
  | 111 => ⟨S256x571, .f32⟩
  | 112 => ⟨S256x571, .f32⟩
  | 113 => ⟨S_, .f32⟩
  | 114 => ⟨S256x1, .f32⟩
  | 115 => ⟨S256x1, .f32⟩
  | 116 => ⟨S256x1, .f32⟩
  | 117 => ⟨S256x571, .f32⟩
  | 118 => ⟨S256x571, .f32⟩
  | 119 => ⟨S1x571, .f32⟩
  | 120 => ⟨S256x571, .f32⟩
  | 121 => ⟨S256x571, .f32⟩
  | 122 => ⟨S1x571, .f32⟩
  | 123 => ⟨S256x571, .f32⟩
  | 124 => ⟨S256x571, .f32⟩
  | 125 => ⟨S256x199, .f32⟩
  | 126 => ⟨S256x199, .i32⟩
  | 127 => ⟨S256x1, .f32⟩
  | _ => ⟨S256x100000, .f32⟩

abbrev hbmTy0_1 (i : Nat) : BufTy := match i % 128 with
  | 0 => ⟨S256x571, .f32⟩
  | 1 => ⟨S256x571, .i1⟩
  | 2 => ⟨S_, .f32⟩
  | 3 => ⟨S256x571, .f32⟩
  | 4 => ⟨S256x571, .f32⟩
  | 5 => ⟨S571x500, .f32⟩
  | 6 => ⟨S256x500, .f32⟩
  | 7 => ⟨S1x500, .f32⟩
  | 8 => ⟨S256x500, .f32⟩
  | 9 => ⟨S256x500, .f32⟩
  | 10 => ⟨S_, .f32⟩
  | 11 => ⟨S256, .f32⟩
  | 12 => ⟨S256x1, .f32⟩
  | 13 => ⟨S_, .f32⟩
  | 14 => ⟨S256x1, .f32⟩
  | 15 => ⟨S256x1, .f32⟩
  | 16 => ⟨S_, .i32⟩
  | 17 => ⟨S_, .f32⟩
  | 18 => ⟨S256, .f32⟩
  | 19 => ⟨S256x1, .f32⟩
  | 20 => ⟨S_, .f32⟩
  | 21 => ⟨S256x1, .f32⟩
  | 22 => ⟨S256x1, .f32⟩
  | 23 => ⟨S256x500, .f32⟩
  | 24 => ⟨S256x500, .f32⟩
  | 25 => ⟨S256x500, .f32⟩
  | 26 => ⟨S_, .f32⟩
  | 27 => ⟨S_, .f32⟩
  | 28 => ⟨S_, .f32⟩
  | 29 => ⟨S_, .f32⟩
  | 30 => ⟨S256, .f32⟩
  | 31 => ⟨S256x1, .f32⟩
  | 32 => ⟨S256x1, .f32⟩
  | 33 => ⟨S256x1, .f32⟩
  | 34 => ⟨S_, .f32⟩
  | 35 => ⟨S_, .i1⟩
  | 36 => ⟨S_, .f32⟩
  | 37 => ⟨S_, .f32⟩
  | 38 => ⟨S256x1, .f32⟩
  | 39 => ⟨S256x1, .f32⟩
  | 40 => ⟨S256x500, .f32⟩
  | 41 => ⟨S256x500, .f32⟩
  | 42 => ⟨S_, .f32⟩
  | 43 => ⟨S256x1, .f32⟩
  | 44 => ⟨S256x1, .f32⟩
  | 45 => ⟨S256x1, .f32⟩
  | 46 => ⟨S256x500, .f32⟩
  | 47 => ⟨S256x500, .f32⟩
  | 48 => ⟨S1x500, .f32⟩
  | 49 => ⟨S256x500, .f32⟩
  | 50 => ⟨S256x500, .f32⟩
  | 51 => ⟨S1x500, .f32⟩
  | 52 => ⟨S256x500, .f32⟩
  | 53 => ⟨S256x500, .f32⟩
  | 54 => ⟨S256x175, .f32⟩
  | 55 => ⟨S256x175, .i32⟩
  | 56 => ⟨S256x1, .f32⟩
  | 57 => ⟨S256x500, .f32⟩
  | 58 => ⟨S256x500, .i1⟩
  | 59 => ⟨S_, .f32⟩
  | 60 => ⟨S256x500, .f32⟩
  | 61 => ⟨S256x500, .f32⟩
  | 62 => ⟨S500x250, .f32⟩
  | 63 => ⟨S256x250, .f32⟩
  | 64 => ⟨S1x250, .f32⟩
  | 65 => ⟨S256x250, .f32⟩
  | 66 => ⟨S256x250, .f32⟩
  | 67 => ⟨S_, .f32⟩
  | 68 => ⟨S256, .f32⟩
  | 69 => ⟨S256x1, .f32⟩
  | 70 => ⟨S_, .f32⟩
  | 71 => ⟨S256x1, .f32⟩
  | 72 => ⟨S256x1, .f32⟩
  | 73 => ⟨S_, .i32⟩
  | 74 => ⟨S_, .f32⟩
  | 75 => ⟨S256, .f32⟩
  | 76 => ⟨S256x1, .f32⟩
  | 77 => ⟨S_, .f32⟩
  | 78 => ⟨S256x1, .f32⟩
  | 79 => ⟨S256x1, .f32⟩
  | 80 => ⟨S256x250, .f32⟩
  | 81 => ⟨S256x250, .f32⟩
  | 82 => ⟨S256x250, .f32⟩
  | 83 => ⟨S_, .f32⟩
  | 84 => ⟨S_, .f32⟩
  | 85 => ⟨S_, .f32⟩
  | 86 => ⟨S_, .f32⟩
  | 87 => ⟨S256, .f32⟩
  | 88 => ⟨S256x1, .f32⟩
  | 89 => ⟨S256x1, .f32⟩
  | 90 => ⟨S256x1, .f32⟩
  | 91 => ⟨S_, .f32⟩
  | 92 => ⟨S_, .i1⟩
  | 93 => ⟨S_, .f32⟩
  | 94 => ⟨S_, .f32⟩
  | 95 => ⟨S256x1, .f32⟩
  | 96 => ⟨S256x1, .f32⟩
  | 97 => ⟨S256x250, .f32⟩
  | 98 => ⟨S256x250, .f32⟩
  | 99 => ⟨S_, .f32⟩
  | 100 => ⟨S256x1, .f32⟩
  | 101 => ⟨S256x1, .f32⟩
  | 102 => ⟨S256x1, .f32⟩
  | 103 => ⟨S256x250, .f32⟩
  | 104 => ⟨S256x250, .f32⟩
  | 105 => ⟨S1x250, .f32⟩
  | 106 => ⟨S256x250, .f32⟩
  | 107 => ⟨S256x250, .f32⟩
  | 108 => ⟨S1x250, .f32⟩
  | 109 => ⟨S256x250, .f32⟩
  | 110 => ⟨S256x250, .f32⟩
  | 111 => ⟨S256x87, .f32⟩
  | 112 => ⟨S256x87, .i32⟩
  | 113 => ⟨S256x1, .f32⟩
  | 114 => ⟨S256x250, .f32⟩
  | 115 => ⟨S256x250, .i1⟩
  | 116 => ⟨S_, .f32⟩
  | 117 => ⟨S256x250, .f32⟩
  | 118 => ⟨S256x250, .f32⟩
  | 119 => ⟨S250x250, .f32⟩
  | 120 => ⟨S256x250, .f32⟩
  | 121 => ⟨S1x250, .f32⟩
  | 122 => ⟨S256x250, .f32⟩
  | 123 => ⟨S256x250, .f32⟩
  | _ => ⟨S256x100000, .f32⟩

abbrev hbmTy (i : Nat) : BufTy := match i / 128 with
  | 0 => hbmTy0_0 i
  | 1 => hbmTy0_1 i
  | _ => ⟨S256x100000, .f32⟩

abbrev bufTy : (tb : Table) → Fin (tcTables nBuf tb) → BufTy
  | .hbm, ⟨i, _⟩ => hbmTy i
  | _, _ => ⟨S256x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_cst : Ref sig .tc := ⟨.hbm, 24, rfl⟩
abbrev main_v5 : Ref sig .tc := ⟨.hbm, 25, rfl⟩
abbrev main_v6 : Ref sig .tc := ⟨.hbm, 26, rfl⟩
abbrev main_cst_0 : Ref sig .tc := ⟨.hbm, 27, rfl⟩
abbrev main_v7 : Ref sig .tc := ⟨.hbm, 28, rfl⟩
abbrev main_v8 : Ref sig .tc := ⟨.hbm, 29, rfl⟩
abbrev main_c : Ref sig .tc := ⟨.hbm, 30, rfl⟩
abbrev main_call0_cst : Ref sig .tc := ⟨.hbm, 31, rfl⟩
abbrev main_call0_v0 : Ref sig .tc := ⟨.hbm, 32, rfl⟩
abbrev main_call0_v1 : Ref sig .tc := ⟨.hbm, 33, rfl⟩
abbrev main_call0_cst_0 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_v5 : Ref sig .tc := ⟨.hbm, 38, rfl⟩
abbrev main_call0_v6 : Ref sig .tc := ⟨.hbm, 39, rfl⟩
abbrev main_call0_v7 : Ref sig .tc := ⟨.hbm, 40, rfl⟩
abbrev main_call0_cst_1 : Ref sig .tc := ⟨.hbm, 41, rfl⟩
abbrev main_call0_v8 : Ref sig .tc := ⟨.hbm, 42, rfl⟩
abbrev main_call0_cst_2 : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_call0_v12 : Ref sig .tc := ⟨.hbm, 47, rfl⟩
abbrev main_call0_cst_3 : Ref sig .tc := ⟨.hbm, 48, rfl⟩
abbrev main_call0_v13 : Ref sig .tc := ⟨.hbm, 49, rfl⟩
abbrev main_call0_cst_4 : Ref sig .tc := ⟨.hbm, 50, rfl⟩
abbrev main_call0_call0_v0 : Ref sig .tc := ⟨.hbm, 51, rfl⟩
abbrev main_call0_call0_v1 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_cst_1 : Ref sig .tc := ⟨.hbm, 56, rfl⟩
abbrev main_v12 : Ref sig .tc := ⟨.hbm, 57, rfl⟩
abbrev main_v13 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_values : Ref sig .tc := ⟨.hbm, 68, rfl⟩
abbrev main_indices : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_cst_2 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_cst_3 : Ref sig .tc := ⟨.hbm, 81, rfl⟩
abbrev main_v33 : Ref sig .tc := ⟨.hbm, 82, rfl⟩
abbrev main_v34 : Ref sig .tc := ⟨.hbm, 83, rfl⟩
abbrev main_cst_4 : Ref sig .tc := ⟨.hbm, 84, rfl⟩
abbrev main_v35 : Ref sig .tc := ⟨.hbm, 85, rfl⟩
abbrev main_v36 : Ref sig .tc := ⟨.hbm, 86, rfl⟩
abbrev main_c_5 : Ref sig .tc := ⟨.hbm, 87, rfl⟩
abbrev main_call2_cst : Ref sig .tc := ⟨.hbm, 88, rfl⟩
abbrev main_call2_v0 : Ref sig .tc := ⟨.hbm, 89, rfl⟩
abbrev main_call2_v1 : Ref sig .tc := ⟨.hbm, 90, rfl⟩
abbrev main_call2_cst_0 : Ref sig .tc := ⟨.hbm, 91, rfl⟩
abbrev main_call2_v2 : Ref sig .tc := ⟨.hbm, 92, rfl⟩
abbrev main_call2_v3 : Ref sig .tc := ⟨.hbm, 93, rfl⟩
abbrev main_call2_v4 : Ref sig .tc := ⟨.hbm, 94, rfl⟩
abbrev main_call2_v5 : Ref sig .tc := ⟨.hbm, 95, rfl⟩
abbrev main_call2_v6 : Ref sig .tc := ⟨.hbm, 96, rfl⟩
abbrev main_call2_v7 : Ref sig .tc := ⟨.hbm, 97, rfl⟩
abbrev main_call2_cst_1 : Ref sig .tc := ⟨.hbm, 98, rfl⟩
abbrev main_call2_v8 : Ref sig .tc := ⟨.hbm, 99, rfl⟩
abbrev main_call2_cst_2 : Ref sig .tc := ⟨.hbm, 100, rfl⟩
abbrev main_call2_v9 : Ref sig .tc := ⟨.hbm, 101, rfl⟩
abbrev main_call2_v10 : Ref sig .tc := ⟨.hbm, 102, rfl⟩
abbrev main_call2_v11 : Ref sig .tc := ⟨.hbm, 103, rfl⟩
abbrev main_call2_v12 : Ref sig .tc := ⟨.hbm, 104, rfl⟩
abbrev main_call2_cst_3 : Ref sig .tc := ⟨.hbm, 105, rfl⟩
abbrev main_call2_v13 : Ref sig .tc := ⟨.hbm, 106, rfl⟩
abbrev main_call2_cst_4 : Ref sig .tc := ⟨.hbm, 107, rfl⟩
abbrev main_call2_call0_v0 : Ref sig .tc := ⟨.hbm, 108, rfl⟩
abbrev main_call2_call0_v1 : Ref sig .tc := ⟨.hbm, 109, rfl⟩
abbrev main_v37 : Ref sig .tc := ⟨.hbm, 110, rfl⟩
abbrev main_v38 : Ref sig .tc := ⟨.hbm, 111, rfl⟩
abbrev main_v39 : Ref sig .tc := ⟨.hbm, 112, rfl⟩
abbrev main_cst_6 : Ref sig .tc := ⟨.hbm, 113, rfl⟩
abbrev main_v40 : Ref sig .tc := ⟨.hbm, 114, rfl⟩
abbrev main_v41 : Ref sig .tc := ⟨.hbm, 115, rfl⟩
abbrev main_v42 : Ref sig .tc := ⟨.hbm, 116, rfl⟩
abbrev main_v43 : Ref sig .tc := ⟨.hbm, 117, rfl⟩
abbrev main_v44 : Ref sig .tc := ⟨.hbm, 118, rfl⟩
abbrev main_v45 : Ref sig .tc := ⟨.hbm, 119, rfl⟩
abbrev main_v46 : Ref sig .tc := ⟨.hbm, 120, rfl⟩
abbrev main_v47 : Ref sig .tc := ⟨.hbm, 121, rfl⟩
abbrev main_v48 : Ref sig .tc := ⟨.hbm, 122, rfl⟩
abbrev main_v49 : Ref sig .tc := ⟨.hbm, 123, rfl⟩
abbrev main_v50 : Ref sig .tc := ⟨.hbm, 124, rfl⟩
abbrev main_values_7 : Ref sig .tc := ⟨.hbm, 125, rfl⟩
abbrev main_indices_8 : Ref sig .tc := ⟨.hbm, 126, rfl⟩
abbrev main_v51 : Ref sig .tc := ⟨.hbm, 127, rfl⟩
abbrev main_v52 : Ref sig .tc := ⟨.hbm, 128, rfl⟩
abbrev main_v53 : Ref sig .tc := ⟨.hbm, 129, rfl⟩
abbrev main_cst_9 : Ref sig .tc := ⟨.hbm, 130, rfl⟩
abbrev main_v54 : Ref sig .tc := ⟨.hbm, 131, rfl⟩
abbrev main_v55 : Ref sig .tc := ⟨.hbm, 132, rfl⟩
abbrev main_v56 : Ref sig .tc := ⟨.hbm, 133, rfl⟩
abbrev main_v57 : Ref sig .tc := ⟨.hbm, 134, rfl⟩
abbrev main_v58 : Ref sig .tc := ⟨.hbm, 135, rfl⟩
abbrev main_v59 : Ref sig .tc := ⟨.hbm, 136, rfl⟩
abbrev main_v60 : Ref sig .tc := ⟨.hbm, 137, rfl⟩
abbrev main_cst_10 : Ref sig .tc := ⟨.hbm, 138, rfl⟩
abbrev main_v61 : Ref sig .tc := ⟨.hbm, 139, rfl⟩
abbrev main_v62 : Ref sig .tc := ⟨.hbm, 140, rfl⟩
abbrev main_cst_11 : Ref sig .tc := ⟨.hbm, 141, rfl⟩
abbrev main_v63 : Ref sig .tc := ⟨.hbm, 142, rfl⟩
abbrev main_v64 : Ref sig .tc := ⟨.hbm, 143, rfl⟩
abbrev main_c_12 : Ref sig .tc := ⟨.hbm, 144, rfl⟩
abbrev main_call4_cst : Ref sig .tc := ⟨.hbm, 145, rfl⟩
abbrev main_call4_v0 : Ref sig .tc := ⟨.hbm, 146, rfl⟩
abbrev main_call4_v1 : Ref sig .tc := ⟨.hbm, 147, rfl⟩
abbrev main_call4_cst_0 : Ref sig .tc := ⟨.hbm, 148, rfl⟩
abbrev main_call4_v2 : Ref sig .tc := ⟨.hbm, 149, rfl⟩
abbrev main_call4_v3 : Ref sig .tc := ⟨.hbm, 150, rfl⟩
abbrev main_call4_v4 : Ref sig .tc := ⟨.hbm, 151, rfl⟩
abbrev main_call4_v5 : Ref sig .tc := ⟨.hbm, 152, rfl⟩
abbrev main_call4_v6 : Ref sig .tc := ⟨.hbm, 153, rfl⟩
abbrev main_call4_v7 : Ref sig .tc := ⟨.hbm, 154, rfl⟩
abbrev main_call4_cst_1 : Ref sig .tc := ⟨.hbm, 155, rfl⟩
abbrev main_call4_v8 : Ref sig .tc := ⟨.hbm, 156, rfl⟩
abbrev main_call4_cst_2 : Ref sig .tc := ⟨.hbm, 157, rfl⟩
abbrev main_call4_v9 : Ref sig .tc := ⟨.hbm, 158, rfl⟩
abbrev main_call4_v10 : Ref sig .tc := ⟨.hbm, 159, rfl⟩
abbrev main_call4_v11 : Ref sig .tc := ⟨.hbm, 160, rfl⟩
abbrev main_call4_v12 : Ref sig .tc := ⟨.hbm, 161, rfl⟩
abbrev main_call4_cst_3 : Ref sig .tc := ⟨.hbm, 162, rfl⟩
abbrev main_call4_v13 : Ref sig .tc := ⟨.hbm, 163, rfl⟩
abbrev main_call4_cst_4 : Ref sig .tc := ⟨.hbm, 164, rfl⟩
abbrev main_call4_call0_v0 : Ref sig .tc := ⟨.hbm, 165, rfl⟩
abbrev main_call4_call0_v1 : Ref sig .tc := ⟨.hbm, 166, rfl⟩
abbrev main_v65 : Ref sig .tc := ⟨.hbm, 167, rfl⟩
abbrev main_v66 : Ref sig .tc := ⟨.hbm, 168, rfl⟩
abbrev main_v67 : Ref sig .tc := ⟨.hbm, 169, rfl⟩
abbrev main_cst_13 : Ref sig .tc := ⟨.hbm, 170, rfl⟩
abbrev main_v68 : Ref sig .tc := ⟨.hbm, 171, rfl⟩
abbrev main_v69 : Ref sig .tc := ⟨.hbm, 172, rfl⟩
abbrev main_v70 : Ref sig .tc := ⟨.hbm, 173, rfl⟩
abbrev main_v71 : Ref sig .tc := ⟨.hbm, 174, rfl⟩
abbrev main_v72 : Ref sig .tc := ⟨.hbm, 175, rfl⟩
abbrev main_v73 : Ref sig .tc := ⟨.hbm, 176, rfl⟩
abbrev main_v74 : Ref sig .tc := ⟨.hbm, 177, rfl⟩
abbrev main_v75 : Ref sig .tc := ⟨.hbm, 178, rfl⟩
abbrev main_v76 : Ref sig .tc := ⟨.hbm, 179, rfl⟩
abbrev main_v77 : Ref sig .tc := ⟨.hbm, 180, rfl⟩
abbrev main_v78 : Ref sig .tc := ⟨.hbm, 181, rfl⟩
abbrev main_values_14 : Ref sig .tc := ⟨.hbm, 182, rfl⟩
abbrev main_indices_15 : Ref sig .tc := ⟨.hbm, 183, rfl⟩
abbrev main_v79 : Ref sig .tc := ⟨.hbm, 184, rfl⟩
abbrev main_v80 : Ref sig .tc := ⟨.hbm, 185, rfl⟩
abbrev main_v81 : Ref sig .tc := ⟨.hbm, 186, rfl⟩
abbrev main_cst_16 : Ref sig .tc := ⟨.hbm, 187, rfl⟩
abbrev main_v82 : Ref sig .tc := ⟨.hbm, 188, rfl⟩
abbrev main_v83 : Ref sig .tc := ⟨.hbm, 189, rfl⟩
abbrev main_v84 : Ref sig .tc := ⟨.hbm, 190, rfl⟩
abbrev main_v85 : Ref sig .tc := ⟨.hbm, 191, rfl⟩
abbrev main_v86 : Ref sig .tc := ⟨.hbm, 192, rfl⟩
abbrev main_v87 : Ref sig .tc := ⟨.hbm, 193, rfl⟩
abbrev main_v88 : Ref sig .tc := ⟨.hbm, 194, rfl⟩
abbrev main_cst_17 : Ref sig .tc := ⟨.hbm, 195, rfl⟩
abbrev main_v89 : Ref sig .tc := ⟨.hbm, 196, rfl⟩
abbrev main_v90 : Ref sig .tc := ⟨.hbm, 197, rfl⟩
abbrev main_cst_18 : Ref sig .tc := ⟨.hbm, 198, rfl⟩
abbrev main_v91 : Ref sig .tc := ⟨.hbm, 199, rfl⟩
abbrev main_v92 : Ref sig .tc := ⟨.hbm, 200, rfl⟩
abbrev main_c_19 : Ref sig .tc := ⟨.hbm, 201, rfl⟩
abbrev main_call6_cst : Ref sig .tc := ⟨.hbm, 202, rfl⟩
abbrev main_call6_v0 : Ref sig .tc := ⟨.hbm, 203, rfl⟩
abbrev main_call6_v1 : Ref sig .tc := ⟨.hbm, 204, rfl⟩
abbrev main_call6_cst_0 : Ref sig .tc := ⟨.hbm, 205, rfl⟩
abbrev main_call6_v2 : Ref sig .tc := ⟨.hbm, 206, rfl⟩
abbrev main_call6_v3 : Ref sig .tc := ⟨.hbm, 207, rfl⟩
abbrev main_call6_v4 : Ref sig .tc := ⟨.hbm, 208, rfl⟩
abbrev main_call6_v5 : Ref sig .tc := ⟨.hbm, 209, rfl⟩
abbrev main_call6_v6 : Ref sig .tc := ⟨.hbm, 210, rfl⟩
abbrev main_call6_v7 : Ref sig .tc := ⟨.hbm, 211, rfl⟩
abbrev main_call6_cst_1 : Ref sig .tc := ⟨.hbm, 212, rfl⟩
abbrev main_call6_v8 : Ref sig .tc := ⟨.hbm, 213, rfl⟩
abbrev main_call6_cst_2 : Ref sig .tc := ⟨.hbm, 214, rfl⟩
abbrev main_call6_v9 : Ref sig .tc := ⟨.hbm, 215, rfl⟩
abbrev main_call6_v10 : Ref sig .tc := ⟨.hbm, 216, rfl⟩
abbrev main_call6_v11 : Ref sig .tc := ⟨.hbm, 217, rfl⟩
abbrev main_call6_v12 : Ref sig .tc := ⟨.hbm, 218, rfl⟩
abbrev main_call6_cst_3 : Ref sig .tc := ⟨.hbm, 219, rfl⟩
abbrev main_call6_v13 : Ref sig .tc := ⟨.hbm, 220, rfl⟩
abbrev main_call6_cst_4 : Ref sig .tc := ⟨.hbm, 221, rfl⟩
abbrev main_call6_call0_v0 : Ref sig .tc := ⟨.hbm, 222, rfl⟩
abbrev main_call6_call0_v1 : Ref sig .tc := ⟨.hbm, 223, rfl⟩
abbrev main_v93 : Ref sig .tc := ⟨.hbm, 224, rfl⟩
abbrev main_v94 : Ref sig .tc := ⟨.hbm, 225, rfl⟩
abbrev main_v95 : Ref sig .tc := ⟨.hbm, 226, rfl⟩
abbrev main_cst_20 : Ref sig .tc := ⟨.hbm, 227, rfl⟩
abbrev main_v96 : Ref sig .tc := ⟨.hbm, 228, rfl⟩
abbrev main_v97 : Ref sig .tc := ⟨.hbm, 229, rfl⟩
abbrev main_v98 : Ref sig .tc := ⟨.hbm, 230, rfl⟩
abbrev main_v99 : Ref sig .tc := ⟨.hbm, 231, rfl⟩
abbrev main_v100 : Ref sig .tc := ⟨.hbm, 232, rfl⟩
abbrev main_v101 : Ref sig .tc := ⟨.hbm, 233, rfl⟩
abbrev main_v102 : Ref sig .tc := ⟨.hbm, 234, rfl⟩
abbrev main_v103 : Ref sig .tc := ⟨.hbm, 235, rfl⟩
abbrev main_v104 : Ref sig .tc := ⟨.hbm, 236, rfl⟩
abbrev main_v105 : Ref sig .tc := ⟨.hbm, 237, rfl⟩
abbrev main_v106 : Ref sig .tc := ⟨.hbm, 238, rfl⟩
abbrev main_values_21 : Ref sig .tc := ⟨.hbm, 239, rfl⟩
abbrev main_indices_22 : Ref sig .tc := ⟨.hbm, 240, rfl⟩
abbrev main_v107 : Ref sig .tc := ⟨.hbm, 241, rfl⟩
abbrev main_v108 : Ref sig .tc := ⟨.hbm, 242, rfl⟩
abbrev main_v109 : Ref sig .tc := ⟨.hbm, 243, rfl⟩
abbrev main_cst_23 : Ref sig .tc := ⟨.hbm, 244, rfl⟩
abbrev main_v110 : Ref sig .tc := ⟨.hbm, 245, rfl⟩
abbrev main_v111 : Ref sig .tc := ⟨.hbm, 246, rfl⟩
abbrev main_v112 : Ref sig .tc := ⟨.hbm, 247, rfl⟩
abbrev main_v113 : Ref sig .tc := ⟨.hbm, 248, rfl⟩
abbrev main_v114 : Ref sig .tc := ⟨.hbm, 249, rfl⟩
abbrev main_v115 : Ref sig .tc := ⟨.hbm, 250, rfl⟩
abbrev main_v116 : Ref sig .tc := ⟨.hbm, 251, rfl⟩

abbrev nD : Nat := 1
abbrev τ : Topo := Topo.v7x

variable {F : FTy → Type} [FloatOps F]
-- ==== Proof.Points.lean ====
module

public import proofs.«01_k».proof.Proof.Gen.KernelIdeal.Frame
public import proofs.«01_k».proof.Proof.Gen.KernelIdeal.Skeleton
public import Idealize.ShloMosaic.Lib.Ring
public import Idealize.ShloMosaic.Lib.Tactic
public import Idealize.ShloMosaic.Lib.WordCmp

/-!
# The grid points of the launch

The launch has 25 points. Point 0 clears the accumulator and adds the first block product; points 1 to 23 add theirs;
point 24 adds the part of the last block that lies inside the arrays and computes the rest of the network.
-/

@[expose] public section

set_option maxRecDepth 16384

noncomputable section

namespace Cert.Fused

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition under which the body clears the accumulator. -/
abbrev atFirst (i : grid0.Coords) : Prop := (Scalar.cmpi .ne (Scalar.extui (Scalar.cmpi .eq (BitVec.ofNat 32 (i 0).val) 0#32)) 0#32) = 1#1
/-- The condition under which the body adds a whole block product. -/
abbrev beforeLast (i : grid0.Coords) : Prop := (Scalar.cmpi .ne (Scalar.extui (Scalar.cmpi .slt (BitVec.ofNat 32 (i 0).val) 24#32)) 0#32) = 1#1
/-- The condition under which the body finishes. -/
abbrev atLast (i : grid0.Coords) : Prop := k0_cond3 i = 1#1

theorem atFirst_iff : ∀ t : Fin cfg0.N, atFirst (grid0.coords t) ↔ t.val = 0 :=
  (by decide +kernel : ∀ t : Fin grid0.N, atFirst (grid0.coords t) ↔ t.val = 0)
theorem beforeLast_iff : ∀ t : Fin cfg0.N, beforeLast (grid0.coords t) ↔ t.val < 24 :=
  (by decide +kernel : ∀ t : Fin grid0.N, beforeLast (grid0.coords t) ↔ t.val < 24)
theorem atLast_iff : ∀ t : Fin cfg0.N, atLast (grid0.coords t) ↔ ¬ t.val < 24 :=
  (by decide +kernel : ∀ t : Fin grid0.N, atLast (grid0.coords t) ↔ ¬ t.val < 24)

/-- The output window is idle before the last point, -/
theorem outIdle : ∀ t : Fin cfg0.N, t.val < 24 → cfg0.idle 19 (grid0.coords t) = true := by decide +kernel
/-- is not written back there, -/
theorem outKept : ∀ t : Fin cfg0.N, t.val < 24 → (cfg0.win 19).flush t = false := by decide +kernel
/-- and is live at the last point. -/
theorem outLive : ∀ t : Fin cfg0.N, ¬ t.val < 24 → cfg0.idle 19 (grid0.coords t) = false := by decide +kernel

/-- Before the last point the block of the activations lies inside the array, -/
theorem xWhole : ∀ t : Fin cfg0.N, t.val < 24 → ∀ a, (cfg0.win 0).clip (grid0.coords t) a = none := by decide +kernel
/-- and so does the block of the weights. -/
theorem wWhole : ∀ t : Fin cfg0.N, t.val < 24 → ∀ a, (cfg0.win 1).clip (grid0.coords t) a = none := by decide +kernel

/-- The accumulator, a scratch buffer of the kernel's own. -/
abbrev acc : Memref sig .tc .vmem S256x800 .f32 := Memref.whole cc0_scratch0

/-- Window 0's current staging memref at point `t`. -/
abbrev stg0 (t : Fin cfg0.N) : Memref sig .tc .vmem S256x4096 .f32 := win0_0.stage (cfg0.slots t 0)
/-- Window 1's current staging memref at point `t`. -/
abbrev stg1 (t : Fin cfg0.N) : Memref sig .tc .vmem S800x4096 .f32 := win0_1.stage (cfg0.slots t 1)
/-- Window 2's current staging memref at point `t`. -/
abbrev stg2 (t : Fin cfg0.N) : Memref sig .tc .vmem S1x800 .f32 := win0_2.stage (cfg0.slots t 2)
/-- Window 3's current staging memref at point `t`. -/
abbrev stg3 (t : Fin cfg0.N) : Memref sig .tc .vmem S1x800 .f32 := win0_3.stage (cfg0.slots t 3)
/-- Window 4's current staging memref at point `t`. -/
abbrev stg4 (t : Fin cfg0.N) : Memref sig .tc .vmem S1x800 .f32 := win0_4.stage (cfg0.slots t 4)
/-- Window 5's current staging memref at point `t`. -/
abbrev stg5 (t : Fin cfg0.N) : Memref sig .tc .vmem S571x800 .f32 := win0_5.stage (cfg0.slots t 5)
/-- Window 6's current staging memref at point `t`. -/
abbrev stg6 (t : Fin cfg0.N) : Memref sig .tc .vmem S1x571 .f32 := win0_6.stage (cfg0.slots t 6)
/-- Window 7's current staging memref at point `t`. -/
abbrev stg7 (t : Fin cfg0.N) : Memref sig .tc .vmem S1x571 .f32 := win0_7.stage (cfg0.slots t 7)
/-- Window 8's current staging memref at point `t`. -/
abbrev stg8 (t : Fin cfg0.N) : Memref sig .tc .vmem S1x571 .f32 := win0_8.stage (cfg0.slots t 8)
/-- Window 9's current staging memref at point `t`. -/
abbrev stg9 (t : Fin cfg0.N) : Memref sig .tc .vmem S500x571 .f32 := win0_9.stage (cfg0.slots t 9)
/-- Window 10's current staging memref at point `t`. -/
abbrev stg10 (t : Fin cfg0.N) : Memref sig .tc .vmem S1x500 .f32 := win0_10.stage (cfg0.slots t 10)
/-- Window 11's current staging memref at point `t`. -/
abbrev stg11 (t : Fin cfg0.N) : Memref sig .tc .vmem S1x500 .f32 := win0_11.stage (cfg0.slots t 11)
/-- Window 12's current staging memref at point `t`. -/
abbrev stg12 (t : Fin cfg0.N) : Memref sig .tc .vmem S1x500 .f32 := win0_12.stage (cfg0.slots t 12)
/-- Window 13's current staging memref at point `t`. -/
abbrev stg13 (t : Fin cfg0.N) : Memref sig .tc .vmem S250x500 .f32 := win0_13.stage (cfg0.slots t 13)
/-- Window 14's current staging memref at point `t`. -/
abbrev stg14 (t : Fin cfg0.N) : Memref sig .tc .vmem S1x250 .f32 := win0_14.stage (cfg0.slots t 14)
/-- Window 15's current staging memref at point `t`. -/
abbrev stg15 (t : Fin cfg0.N) : Memref sig .tc .vmem S1x250 .f32 := win0_15.stage (cfg0.slots t 15)
/-- Window 16's current staging memref at point `t`. -/
abbrev stg16 (t : Fin cfg0.N) : Memref sig .tc .vmem S1x250 .f32 := win0_16.stage (cfg0.slots t 16)
/-- Window 17's current staging memref at point `t`. -/
abbrev stg17 (t : Fin cfg0.N) : Memref sig .tc .vmem S250x250 .f32 := win0_17.stage (cfg0.slots t 17)
/-- Window 18's current staging memref at point `t`. -/
abbrev stg18 (t : Fin cfg0.N) : Memref sig .tc .vmem S1x250 .f32 := win0_18.stage (cfg0.slots t 18)
/-- Window 19's current staging memref at point `t`. -/
abbrev stg19 (t : Fin cfg0.N) : Memref sig .tc .vmem S256x250 .f32 := win0_19.stage (cfg0.slots t 19)

/-- The region's invariant at the launch, with the accumulator as a memref owned at some contents. -/
theorem regionStart (c : Dev nD) :
    (Pipeline.ΦA spec0 c : sProp 𝕄)
      = iprop(iprop((∃ d, owns (c : Thread nD τ) acc fullShare d)) ∗ (∃ r, prngReg c r)) := by
  unfold Pipeline.ΦA; rw [scopedRest0_eq]; simp only [acc, owns_whole]; try rfl

end Cert.Fused

end
-- ==== Proof.RunAdd.lean ====
module

public import proofs.«01_k».proof.Proof.Points
public import Idealize.ShloMosaic.Lib.VecWindow

@[expose] public section

set_option maxRecDepth 16384

noncomputable section

namespace Cert.Fused

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- At the first point, on the blocks `x0` of the activations and `x1` of the weights, the body leaves the block product added
    to zero in the accumulator, whatever it held. -/
theorem run_first (c : Dev nD) (i : grid0.Coords) (arg1 : Memref sig .tc .vmem S256x4096 .f32) (harg1 : arg1.IsWhole) (arg2 : Memref sig .tc .vmem S800x4096 .f32) (harg2 : arg2.IsWhole) (arg3 : Memref sig .tc .vmem S1x800 .f32) (harg3 : arg3.IsWhole) (arg4 : Memref sig .tc .vmem S1x800 .f32) (harg4 : arg4.IsWhole) (arg5 : Memref sig .tc .vmem S1x800 .f32) (harg5 : arg5.IsWhole) (arg6 : Memref sig .tc .vmem S571x800 .f32) (harg6 : arg6.IsWhole) (arg7 : Memref sig .tc .vmem S1x571 .f32) (harg7 : arg7.IsWhole) (arg8 : Memref sig .tc .vmem S1x571 .f32) (harg8 : arg8.IsWhole) (arg9 : Memref sig .tc .vmem S1x571 .f32) (harg9 : arg9.IsWhole) (arg10 : Memref sig .tc .vmem S500x571 .f32) (harg10 : arg10.IsWhole) (arg11 : Memref sig .tc .vmem S1x500 .f32) (harg11 : arg11.IsWhole) (arg12 : Memref sig .tc .vmem S1x500 .f32) (harg12 : arg12.IsWhole) (arg13 : Memref sig .tc .vmem S1x500 .f32) (harg13 : arg13.IsWhole) (arg14 : Memref sig .tc .vmem S250x500 .f32) (harg14 : arg14.IsWhole) (arg15 : Memref sig .tc .vmem S1x250 .f32) (harg15 : arg15.IsWhole) (arg16 : Memref sig .tc .vmem S1x250 .f32) (harg16 : arg16.IsWhole) (arg17 : Memref sig .tc .vmem S1x250 .f32) (harg17 : arg17.IsWhole) (arg18 : Memref sig .tc .vmem S250x250 .f32) (harg18 : arg18.IsWhole) (arg19 : Memref sig .tc .vmem S1x250 .f32) (harg19 : arg19.IsWhole) (arg20 : Memref sig .tc .vmem S256x250 .f32) (harg20 : arg20.IsWhole) (arg21 : Memref sig .tc .vmem S256x800 .f32) (harg21 : arg21.IsWhole)
    (hc0 : atFirst i) (hc1 : beforeLast i) (hc2 : ¬ atLast i)
    (x0 : Vec F S256x4096 .f32) (x1 : Vec F S800x4096 .f32) (E : Set ℕ) (K : PUnit → sProp 𝕄) :
    iprop(owns (c : Thread nD τ) arg1 fullShare x0 ∗ owns (c : Thread nD τ) arg2 fullShare x1 ∗ (∃ d, owns (c : Thread nD τ) arg21 fullShare d)
        ∗ (iprop(owns (c : Thread nD τ) arg1 fullShare x0 ∗ owns (c : Thread nD τ) arg2 fullShare x1 ∗ owns (c : Thread nD τ) arg21 fullShare (k0_pay2 k0_pay1 x0 x1)) -∗ K ⟨⟩))
      ⊢ wp frame (wpE (defs₀ (F := F)) Variants.none c none) E (cc0__fused i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0__fused_eq_skeleton]; unfold cc0__fused_skel
  unfold owns
  iintro ⟨⟨%f0, %hf0, H0⟩, ⟨%f1, %hf1, H1⟩, ⟨%ds0, %fs0, -, HS0⟩, Hk⟩
  obtain rfl := harg1.eq_unread hf0; obtain rfl := harg2.eq_unread hf1
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact HS0
  ipureintro
  rw [View.read_writes_full]
  sl_unfold_run_names
  exact congr (congr (congrArg k0_pay2 (View.readCov_full arg21.view inb_S256x800_S256x800_0_0 inb_S256x800_S256x800_0_0 _ _))
    ((View.readAt_full arg1.view _ inb_S256x4096_S256x4096_0_0).trans hf0))
    ((View.readAt_full arg2.view _ inb_S800x4096_S800x4096_0_0).trans hf1)

/-- At a later point before the last the body adds the block product to what the accumulator holds. -/
theorem run_middle (c : Dev nD) (i : grid0.Coords) (arg1 : Memref sig .tc .vmem S256x4096 .f32) (harg1 : arg1.IsWhole) (arg2 : Memref sig .tc .vmem S800x4096 .f32) (harg2 : arg2.IsWhole) (arg3 : Memref sig .tc .vmem S1x800 .f32) (harg3 : arg3.IsWhole) (arg4 : Memref sig .tc .vmem S1x800 .f32) (harg4 : arg4.IsWhole) (arg5 : Memref sig .tc .vmem S1x800 .f32) (harg5 : arg5.IsWhole) (arg6 : Memref sig .tc .vmem S571x800 .f32) (harg6 : arg6.IsWhole) (arg7 : Memref sig .tc .vmem S1x571 .f32) (harg7 : arg7.IsWhole) (arg8 : Memref sig .tc .vmem S1x571 .f32) (harg8 : arg8.IsWhole) (arg9 : Memref sig .tc .vmem S1x571 .f32) (harg9 : arg9.IsWhole) (arg10 : Memref sig .tc .vmem S500x571 .f32) (harg10 : arg10.IsWhole) (arg11 : Memref sig .tc .vmem S1x500 .f32) (harg11 : arg11.IsWhole) (arg12 : Memref sig .tc .vmem S1x500 .f32) (harg12 : arg12.IsWhole) (arg13 : Memref sig .tc .vmem S1x500 .f32) (harg13 : arg13.IsWhole) (arg14 : Memref sig .tc .vmem S250x500 .f32) (harg14 : arg14.IsWhole) (arg15 : Memref sig .tc .vmem S1x250 .f32) (harg15 : arg15.IsWhole) (arg16 : Memref sig .tc .vmem S1x250 .f32) (harg16 : arg16.IsWhole) (arg17 : Memref sig .tc .vmem S1x250 .f32) (harg17 : arg17.IsWhole) (arg18 : Memref sig .tc .vmem S250x250 .f32) (harg18 : arg18.IsWhole) (arg19 : Memref sig .tc .vmem S1x250 .f32) (harg19 : arg19.IsWhole) (arg20 : Memref sig .tc .vmem S256x250 .f32) (harg20 : arg20.IsWhole) (arg21 : Memref sig .tc .vmem S256x800 .f32) (harg21 : arg21.IsWhole)
    (hc0 : ¬ atFirst i) (hc1 : beforeLast i) (hc2 : ¬ atLast i)
    (x0 : Vec F S256x4096 .f32) (x1 : Vec F S800x4096 .f32) (xs : Vec F S256x800 .f32) (E : Set ℕ) (K : PUnit → sProp 𝕄) :
    iprop(owns (c : Thread nD τ) arg1 fullShare x0 ∗ owns (c : Thread nD τ) arg2 fullShare x1 ∗ owns (c : Thread nD τ) arg21 fullShare xs
        ∗ (iprop(owns (c : Thread nD τ) arg1 fullShare x0 ∗ owns (c : Thread nD τ) arg2 fullShare x1 ∗ owns (c : Thread nD τ) arg21 fullShare (k0_pay2 xs x0 x1)) -∗ K ⟨⟩))
      ⊢ wp frame (wpE (defs₀ (F := F)) Variants.none c none) E (cc0__fused i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0__fused_eq_skeleton]; unfold cc0__fused_skel
  unfold owns
  iintro ⟨⟨%f0, %hf0, H0⟩, ⟨%f1, %hf1, H1⟩, ⟨%fs0, %hfs0, HS0⟩, Hk⟩
  obtain rfl := harg1.eq_unread hf0; obtain rfl := harg2.eq_unread hf1; obtain rfl := harg21.eq_unread hfs0
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact HS0
  ipureintro
  rw [View.read_writes_full]
  sl_unfold_run_names
  exact congr (congr (congrArg k0_pay2 ((View.readAt_full arg21.view _ inb_S256x800_S256x800_0_0).trans hfs0))
    ((View.readAt_full arg1.view _ inb_S256x4096_S256x4096_0_0).trans hf0))
    ((View.readAt_full arg2.view _ inb_S800x4096_S800x4096_0_0).trans hf1)

end Cert.Fused

end
-- ==== Proof.Network.lean ====
module

public import proofs.«01_k».proof.Proof.Gen.KernelIdeal.Skeleton

/-!
# What the body computes at the last point, layer by layer

The network after the first product is four times "normalise, then keep the largest entries of each row", each followed by
a product and a bias. The functions here are those steps for a matrix of 256 rows and any width, over the operations of the
program; `network` is their composition.
-/

@[expose] public section

set_option maxRecDepth 16384

noncomputable section

namespace Cert.Fused

open Cert.KernelIdeal Cert.KernelIdeal.Gen
open Idealize.ShloMosaic Idealize.ShloMosaic.TcCoe Idealize.ShloMosaic.Tactic

variable {F : FTy → Type} [FloatOps F]

/-- The shape of a matrix of 256 rows and `n` columns, -/
abbrev Mat (n : ℕ) : Shape := ⟨2, ![256, n]⟩
/-- of one row of `n` entries, -/
abbrev Row (n : ℕ) : Shape := ⟨2, ![1, n]⟩
/-- and of one entry for each of the 256 rows. -/
abbrev Col : Shape := ⟨2, ![256, 1]⟩

/-- The shape facts the steps use at width `n`. -/
structure Width (n : ℕ) : Prop where
  red : (Mat n).Reduces [1] S256
  col : Col.Broadcasts (Mat n)
  row : (Row n).Broadcasts (Mat n)
  same : (Row n).ShapeCasts (Row n)

theorem width800 : Width 800 := ⟨reduces_S256x800_S256, broadcasts_S256x1_S256x800, broadcasts_S1x800_S256x800, shapeCasts_S1x800_S1x800⟩
theorem width571 : Width 571 := ⟨reduces_S256x571_S256, broadcasts_S256x1_S256x571, broadcasts_S1x571_S256x571, shapeCasts_S1x571_S1x571⟩
theorem width500 : Width 500 := ⟨reduces_S256x500_S256, broadcasts_S256x1_S256x500, broadcasts_S1x500_S256x500, shapeCasts_S1x500_S1x500⟩
theorem width250 : Width 250 := ⟨reduces_S256x250_S256, broadcasts_S256x1_S256x250, broadcasts_S1x250_S256x250, shapeCasts_S1x250_S1x250⟩

variable {n k : ℕ}

/-- A literal at every row. -/
def lit (w : BitVec 32) : FVec F Col .f32 := broadcast Col (Scalar.ofBits .f32 w)

/-- The sum of each row. -/
def rowSum (W : Width n) (h : FVec F (Mat n) .f32) : FVec F Col .f32 :=
  shapeCast Col (multiReduction .add [1] S256 h 0x00000000#32 W.red (.inl rfl) rfl) shapeCasts_S256_S256x1

/-- A row operand put at each of the 256 rows. -/
def spread (W : Width n) (g : Vec F (Row n) .f32) : FVec F (Mat n) .f32 :=
  broadcastTo (Mat n) (shapeCast (Row n) g W.same) W.row

/-- The mean of each row; `wn` is the word of the width. -/
def mean (W : Width n) (wn : BitVec 32) (h : FVec F (Mat n) .f32) : FVec F Col .f32 :=
  divf (rowSum W h) (lit wn)

/-- Each entry less its row's mean. -/
def centred (W : Width n) (wn : BitVec 32) (h : FVec F (Mat n) .f32) : FVec F (Mat n) .f32 :=
  subf h (broadcastTo (Mat n) (mean W wn h) W.col)

/-- Layer normalisation with scale `g` and offset `b`. -/
def normalise (W : Width n) (wn : BitVec 32) (h : FVec F (Mat n) .f32) (g b : Vec F (Row n) .f32) : FVec F (Mat n) .f32 :=
  addf (mulf (divf (centred W wn h)
    (broadcastTo (Mat n) (sqrt (addf (divf (rowSum W (mulf (centred W wn h) (centred W wn h))) (lit wn)) (lit 0x3727C5AC#32))) W.col))
    (spread W g)) (spread W b)

/-- How many entries of each row are at least that row's `t`. -/
def count (W : Width n) (h : FVec F (Mat n) .f32) (t : FVec F Col .f32) : FVec F Col .f32 :=
  rowSum W (sitofp .f32 (extui 32 (cmpf .oge h (broadcastTo (Mat n) t W.col)) natLt_1_32))

/-- The least entry of each row. -/
def rowMin (W : Width n) (h : FVec F (Mat n) .f32) : FVec F Col .f32 :=
  shapeCast Col (multiReduction .minimumf [1] S256 h 0x7F800000#32 W.red (.inl rfl) rfl) shapeCasts_S256_S256x1

/-- The greatest entry of each row. -/
def rowMax (W : Width n) (h : FVec F (Mat n) .f32) : FVec F Col .f32 :=
  shapeCast Col (multiReduction .maximumf [1] S256 h 0xFF800000#32 W.red (.inl rfl) rfl) shapeCasts_S256_S256x1

/-- A bound a little above the greatest entry of each row. -/
def above (W : Width n) (h : FVec F (Mat n) .f32) : FVec F Col .f32 :=
  addf (rowMax W h) (mulf (addf (absf (rowMax W h)) (lit 0x3F800000#32)) (lit 0x358637BD#32))

/-- The middle of a bracket. -/
def middle (p : FVec F Col .f32 × FVec F Col .f32) : FVec F Col .f32 := mulf (lit 0x3F000000#32) (addf p.1 p.2)

/-- Whether at least as many entries as wanted (`wk` is the word of that number) lie above the middle of the bracket. -/
def enough (W : Width n) (wk : BitVec 32) (h : FVec F (Mat n) .f32) (p : FVec F Col .f32 × FVec F Col .f32) : IVec Col 1 :=
  cmpf .oge (count W h (middle p)) (lit wk)

/-- The bracket of each row after a number of halvings. -/
def bracket (W : Width n) (wk : BitVec 32) (h : FVec F (Mat n) .f32) : ℕ → FVec F Col .f32 × FVec F Col .f32
  | 0 => (rowMin W h, above W h)
  | j + 1 => (select (enough W wk h (bracket W wk h j)) (middle (bracket W wk h j)) (bracket W wk h j).1,
      select (enough W wk h (bracket W wk h j)) (bracket W wk h j).2 (middle (bracket W wk h j)))

/-- The entries of each row that are at least the lower end of the bracket after 20 halvings, the others replaced by zero. -/
def keep (W : Width n) (wk : BitVec 32) (h : FVec F (Mat n) .f32) : FVec F (Mat n) .f32 :=
  select (cmpf .oge h (broadcastTo (Mat n) (bracket W wk h 20).1 W.col)) h (broadcast (Mat n) (Scalar.ofBits .f32 0x00000000#32))

/-- A product with a weight matrix whose rows are the output's columns, plus a bias. -/
def dense (W : Width k) (d : DotDims (Mat n) ⟨2, ![k, n]⟩ (Mat k)) (h : FVec F (Mat n) .f32) (w : Vec F ⟨2, ![k, n]⟩ .f32) (b : Vec F (Row k) .f32) :
    FVec F (Mat k) .f32 :=
  addf (matmul d none (truncf .bf16 h bitsLt_bf16_f32) (truncf .bf16 w bitsLt_bf16_f32) (constant (Mat k) .f32 0x00000000#32)) (spread W b)

/-- Normalise, then keep the largest entries. -/
def layer (W : Width n) (wn wk : BitVec 32) (h : FVec F (Mat n) .f32) (g b : Vec F (Row n) .f32) : FVec F (Mat n) .f32 :=
  keep W wk (normalise W wn h g b)

/-- Everything after the first layer's product: four layers, each followed by a product and a bias. -/
def network (h : FVec F (Mat 800) .f32) (g1 b1 : Vec F (Row 800) .f32)
    (w2 : Vec F S571x800 .f32) (c2 g2 b2 : Vec F (Row 571) .f32) (w3 : Vec F S500x571 .f32) (c3 g3 b3 : Vec F (Row 500) .f32)
    (w4 : Vec F S250x500 .f32) (c4 g4 b4 : Vec F (Row 250) .f32) (w5 : Vec F S250x250 .f32) (c5 : Vec F (Row 250) .f32) : FVec F (Mat 250) .f32 :=
  dense width250 dot_S256x250_S250x250_S256x250_1_1_0_0_n_n
    (layer width250 0x437A0000#32 0x42AE0000#32
      (dense width250 dot_S256x500_S250x500_S256x250_1_1_0_0_n_n
        (layer width500 0x43FA0000#32 0x432F0000#32
          (dense width500 dot_S256x571_S500x571_S256x500_1_1_0_0_n_n
            (layer width571 0x440EC000#32 0x43470000#32
              (dense width571 dot_S256x800_S571x800_S256x571_1_1_0_0_n_n
                (layer width800 0x44480000#32 0x438C0000#32 h g1 b1) w2 c2) g2 b2) w3 c3) g3 b3) w4 c4) g4 b4) w5 c5

end Cert.Fused

end
-- ==== Proof.RunLast.lean ====
module

public import proofs.«01_k».proof.Proof.Points
public import Idealize.ShloMosaic.Lib.VecWindow
public import Idealize.ShloMosaic.Lib.Tactic.Stretches
public import proofs.«01_k».proof.Proof.Network

@[expose] public section

set_option maxRecDepth 16384

noncomputable section

namespace Cert.Fused

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- At the last point the body writes the network's result on the finished accumulator to the output block; the finished
    accumulator is what the scratch buffer holds plus the last block's product (masked) and the bias (`k0_pay4`). -/
theorem run_last (c : Dev nD) (i : grid0.Coords) (arg1 : Memref sig .tc .vmem S256x4096 .f32) (harg1 : arg1.IsWhole) (arg2 : Memref sig .tc .vmem S800x4096 .f32) (harg2 : arg2.IsWhole) (arg3 : Memref sig .tc .vmem S1x800 .f32) (harg3 : arg3.IsWhole) (arg4 : Memref sig .tc .vmem S1x800 .f32) (harg4 : arg4.IsWhole) (arg5 : Memref sig .tc .vmem S1x800 .f32) (harg5 : arg5.IsWhole) (arg6 : Memref sig .tc .vmem S571x800 .f32) (harg6 : arg6.IsWhole) (arg7 : Memref sig .tc .vmem S1x571 .f32) (harg7 : arg7.IsWhole) (arg8 : Memref sig .tc .vmem S1x571 .f32) (harg8 : arg8.IsWhole) (arg9 : Memref sig .tc .vmem S1x571 .f32) (harg9 : arg9.IsWhole) (arg10 : Memref sig .tc .vmem S500x571 .f32) (harg10 : arg10.IsWhole) (arg11 : Memref sig .tc .vmem S1x500 .f32) (harg11 : arg11.IsWhole) (arg12 : Memref sig .tc .vmem S1x500 .f32) (harg12 : arg12.IsWhole) (arg13 : Memref sig .tc .vmem S1x500 .f32) (harg13 : arg13.IsWhole) (arg14 : Memref sig .tc .vmem S250x500 .f32) (harg14 : arg14.IsWhole) (arg15 : Memref sig .tc .vmem S1x250 .f32) (harg15 : arg15.IsWhole) (arg16 : Memref sig .tc .vmem S1x250 .f32) (harg16 : arg16.IsWhole) (arg17 : Memref sig .tc .vmem S1x250 .f32) (harg17 : arg17.IsWhole) (arg18 : Memref sig .tc .vmem S250x250 .f32) (harg18 : arg18.IsWhole) (arg19 : Memref sig .tc .vmem S1x250 .f32) (harg19 : arg19.IsWhole) (arg20 : Memref sig .tc .vmem S256x250 .f32) (harg20 : arg20.IsWhole) (arg21 : Memref sig .tc .vmem S256x800 .f32) (harg21 : arg21.IsWhole)
    (hc0 : ¬ atFirst i) (hc1 : ¬ beforeLast i) (hc2 : atLast i)
    (x0 : Vec F S256x4096 .f32) (x1 : Vec F S800x4096 .f32) (x2 : Vec F S1x800 .f32) (x3 : Vec F S1x800 .f32) (x4 : Vec F S1x800 .f32) (x5 : Vec F S571x800 .f32) (x6 : Vec F S1x571 .f32) (x7 : Vec F S1x571 .f32) (x8 : Vec F S1x571 .f32) (x9 : Vec F S500x571 .f32) (x10 : Vec F S1x500 .f32) (x11 : Vec F S1x500 .f32) (x12 : Vec F S1x500 .f32) (x13 : Vec F S250x500 .f32) (x14 : Vec F S1x250 .f32) (x15 : Vec F S1x250 .f32) (x16 : Vec F S1x250 .f32) (x17 : Vec F S250x250 .f32) (x18 : Vec F S1x250 .f32) (xs : Vec F S256x800 .f32)  (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ d, owns (c : Thread nD τ) arg20 fullShare d) ∗ owns (c : Thread nD τ) arg21 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare (network (k0_pay4 x0 x1 xs x2) x3 x4 x5 x6 x7 x8 x9 x10 x11 x12 x13 x14 x15 x16 x17 x18) ∗ owns (c : Thread nD τ) arg21 fullShare xs) -∗ K ⟨⟩))
      ⊢ wp frame (wpE (defs₀ (F := F)) Variants.none c none) E (cc0__fused i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0__fused_eq_skeleton]; unfold cc0__fused_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%fs0, %hfs0, HS0⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg21.eq_unread hfs0
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; · ipureintro; exact harg13.read_unread _
    iexact H12
  isplitl [H13]
  · iexists _; isplitr; · ipureintro; exact harg14.read_unread _
    iexact H13
  isplitl [H14]
  · iexists _; isplitr; · ipureintro; exact harg15.read_unread _
    iexact H14
  isplitl [H15]
  · iexists _; isplitr; · ipureintro; exact harg16.read_unread _
    iexact H15
  isplitl [H16]
  · iexists _; isplitr; · ipureintro; exact harg17.read_unread _
    iexact H16
  isplitl [H17]
  · iexists _; isplitr; · ipureintro; exact harg18.read_unread _
    iexact H17
  isplitl [H18]
  · iexists _; isplitr; · ipureintro; exact harg19.read_unread _
    iexact H18
  isplitl [H19]
  · iexists _; isplitr
    swap; · iexact H19
    ipureintro
    rw [View.read_writes_full]
    have open_reads : network (k0_pay4 (View.readAt (Elt F) arg1.view (Rect.unit ![0, 0] S256x4096.size inb_S256x4096_S256x4096_0_0).toLoadRect (harg1.unread x0)) (View.readAt (Elt F) arg2.view (Rect.unit ![0, 0] S800x4096.size inb_S800x4096_S800x4096_0_0).toLoadRect (harg2.unread x1)) (View.readAt (Elt F) arg21.view (Rect.unit ![0, 0] S256x800.size inb_S256x800_S256x800_0_0).toLoadRect (harg21.unread xs)) (View.readAt (Elt F) arg3.view (Rect.unit ![0, 0] S1x800.size inb_S1x800_S1x800_0_0).toLoadRect (harg3.unread x2))) (View.readAt (Elt F) arg4.view (Rect.unit ![0, 0] S1x800.size inb_S1x800_S1x800_0_0).toLoadRect (harg4.unread x3)) (View.readAt (Elt F) arg5.view (Rect.unit ![0, 0] S1x800.size inb_S1x800_S1x800_0_0).toLoadRect (harg5.unread x4)) (View.readAt (Elt F) arg6.view (Rect.unit ![0, 0] S571x800.size inb_S571x800_S571x800_0_0).toLoadRect (harg6.unread x5)) (View.readAt (Elt F) arg7.view (Rect.unit ![0, 0] S1x571.size inb_S1x571_S1x571_0_0).toLoadRect (harg7.unread x6)) (View.readAt (Elt F) arg8.view (Rect.unit ![0, 0] S1x571.size inb_S1x571_S1x571_0_0).toLoadRect (harg8.unread x7)) (View.readAt (Elt F) arg9.view (Rect.unit ![0, 0] S1x571.size inb_S1x571_S1x571_0_0).toLoadRect (harg9.unread x8)) (View.readAt (Elt F) arg10.view (Rect.unit ![0, 0] S500x571.size inb_S500x571_S500x571_0_0).toLoadRect (harg10.unread x9)) (View.readAt (Elt F) arg11.view (Rect.unit ![0, 0] S1x500.size inb_S1x500_S1x500_0_0).toLoadRect (harg11.unread x10)) (View.readAt (Elt F) arg12.view (Rect.unit ![0, 0] S1x500.size inb_S1x500_S1x500_0_0).toLoadRect (harg12.unread x11)) (View.readAt (Elt F) arg13.view (Rect.unit ![0, 0] S1x500.size inb_S1x500_S1x500_0_0).toLoadRect (harg13.unread x12)) (View.readAt (Elt F) arg14.view (Rect.unit ![0, 0] S250x500.size inb_S250x500_S250x500_0_0).toLoadRect (harg14.unread x13)) (View.readAt (Elt F) arg15.view (Rect.unit ![0, 0] S1x250.size inb_S1x250_S1x250_0_0).toLoadRect (harg15.unread x14)) (View.readAt (Elt F) arg16.view (Rect.unit ![0, 0] S1x250.size inb_S1x250_S1x250_0_0).toLoadRect (harg16.unread x15)) (View.readAt (Elt F) arg17.view (Rect.unit ![0, 0] S1x250.size inb_S1x250_S1x250_0_0).toLoadRect (harg17.unread x16)) (View.readAt (Elt F) arg18.view (Rect.unit ![0, 0] S250x250.size inb_S250x250_S250x250_0_0).toLoadRect (harg18.unread x17)) (View.readAt (Elt F) arg19.view (Rect.unit ![0, 0] S1x250.size inb_S1x250_S1x250_0_0).toLoadRect (harg19.unread x18)) = network (k0_pay4 x0 x1 xs x2) x3 x4 x5 x6 x7 x8 x9 x10 x11 x12 x13 x14 x15 x16 x17 x18 := by
      rw [View.readAt_full arg1.view _ inb_S256x4096_S256x4096_0_0, hf0,
        View.readAt_full arg2.view _ inb_S800x4096_S800x4096_0_0, hf1,
        View.readAt_full arg21.view _ inb_S256x800_S256x800_0_0, hfs0,
        View.readAt_full arg3.view _ inb_S1x800_S1x800_0_0, hf2,
        View.readAt_full arg4.view _ inb_S1x800_S1x800_0_0, hf3,
        View.readAt_full arg5.view _ inb_S1x800_S1x800_0_0, hf4,
        View.readAt_full arg6.view _ inb_S571x800_S571x800_0_0, hf5,
        View.readAt_full arg7.view _ inb_S1x571_S1x571_0_0, hf6,
        View.readAt_full arg8.view _ inb_S1x571_S1x571_0_0, hf7,
        View.readAt_full arg9.view _ inb_S1x571_S1x571_0_0, hf8,
        View.readAt_full arg10.view _ inb_S500x571_S500x571_0_0, hf9,
        View.readAt_full arg11.view _ inb_S1x500_S1x500_0_0, hf10,
        View.readAt_full arg12.view _ inb_S1x500_S1x500_0_0, hf11,
        View.readAt_full arg13.view _ inb_S1x500_S1x500_0_0, hf12,
        View.readAt_full arg14.view _ inb_S250x500_S250x500_0_0, hf13,
        View.readAt_full arg15.view _ inb_S1x250_S1x250_0_0, hf14,
        View.readAt_full arg16.view _ inb_S1x250_S1x250_0_0, hf15,
        View.readAt_full arg17.view _ inb_S1x250_S1x250_0_0, hf16,
        View.readAt_full arg18.view _ inb_S250x250_S250x250_0_0, hf17,
        View.readAt_full arg19.view _ inb_S1x250_S1x250_0_0, hf18]
    rw [← open_reads]
    sl_open_run
    sl_open_pay
    simp only [network, layer, keep, dense, normalise, centred, mean, spread, rowSum, lit, bracket, middle, enough, count, above, rowMin, rowMax]
  iexists _; isplitr; · ipureintro; exact harg21.read_unread _
  iexact HS0

end Cert.Fused

end
-- ==== Proof.Blocks.lean ====
module

public import proofs.«01_k».proof.Proof.Points
public import proofs.«01_k».proof.Proof.Network
public import Idealize.ShloMosaic.Lib.VecWindow
public import Idealize.ShloMosaic.Lib.Pipeline.Value

/-!
# What the buffers hold during the launch

The 25th block of the activations and of the weights overhangs the arrays: of its 4096 columns only the first 1696 lie
inside, and the copy leaves the others as they were. The body's last step masks those columns, so that what it computes does
not depend on them.
-/

@[expose] public section

set_option maxRecDepth 16384

noncomputable section

namespace Cert.Fused

open Cert.KernelIdeal Cert.KernelIdeal.Gen
open Idealize.ShloMosaic Idealize.ShloMosaic.TcCoe Idealize.ShloMosaic.Tactic
open Idealize.ShloMosaic.Pipeline (Dat Cfg Window BodyObligation cellOf)

variable {F : FTy → Type} [FloatOps F]

/-- The mask of the last step keeps column `k` iff `k < 1696`. -/
theorem mask_iff {s : Shape} (d : Fin s.rank) (h : s.Iotas .tc 32 [d]) (j : s.Idx) (hb : s.size d ≤ 4096) :
    cmpi .slt (iota .tc s 32 [d] h) (broadcast s 1696#32) j = 1#1 ↔ (j d).val < 1696 := by
  have e : cmpi .slt (iota .tc s 32 [d] h) (broadcast s 1696#32) j = IntOp.cmpi .slt (BitVec.ofNat 32 (j d).val) (BitVec.ofNat 32 1696) := by
    show IntOp.cmpi .slt (iota .tc s 32 [d] h j) _ = _
    rw [iota_single_apply]; rfl
  rw [e]
  exact WordCmp.cmpi_slt_ofNat_eq_one_iff (by have := (j d).isLt; omega) (by omega)

/-- Masked, two blocks that agree on the first 1696 columns are the same. -/
theorem masked_congr {s : Shape} (d : Fin s.rank) (h : s.Iotas .tc 32 [d]) (hb : s.size d ≤ 4096) (a a' z : Vec F s .f32)
    (hab : ∀ j : s.Idx, (j d).val < 1696 → a j = a' j) :
    select (cmpi .slt (iota .tc s 32 [d] h) (broadcast s 1696#32)) a z = select (cmpi .slt (iota .tc s 32 [d] h) (broadcast s 1696#32)) a' z := by
  funext j
  show Scalar.select _ _ _ = Scalar.select _ _ _
  by_cases hj : (j d).val < 1696
  · rw [hab j hj]
  · exact (if_neg (fun e => hj ((mask_iff d h j hb).mp e))).trans (if_neg (fun e => hj ((mask_iff d h j hb).mp e))).symm

/-- The finished accumulator depends only on the first 1696 columns of the last blocks. -/
theorem finished_congr (a a' : Vec F S256x4096 .f32) (w w' : Vec F S800x4096 .f32) (xs : Vec F S256x800 .f32) (b : Vec F S1x800 .f32)
    (ha : ∀ j : S256x4096.Idx, (j 1).val < 1696 → a j = a' j) (hw : ∀ j : S800x4096.Idx, (j 1).val < 1696 → w j = w' j) :
    k0_pay4 a w xs b = k0_pay4 a' w' xs b := by
  unfold k0_pay4
  dsimp only
  rw [masked_congr (1 : Fin S256x4096.rank) iota_S256x4096_d1_w32 (by decide) a a' _ ha,
    masked_congr (1 : Fin S800x4096.rank) iota_S800x4096_d1_w32 (by decide) w w' _ hw]

/-- At the last point the copy of the activations moves the first 1696 columns, -/
theorem xCut : ∀ t : Fin cfg0.N, ¬ t.val < 24 → (cfg0.win 0).xsize (grid0.coords t) 0 = 256 ∧ (cfg0.win 0).xsize (grid0.coords t) 1 = 1696 := by decide +kernel
/-- and so does that of the weights. -/
theorem wCut : ∀ t : Fin cfg0.N, ¬ t.val < 24 → (cfg0.win 1).xsize (grid0.coords t) 0 = 800 ∧ (cfg0.win 1).xsize (grid0.coords t) 1 = 1696 := by decide +kernel

variable (m : (ℓ : Loc nD τ sig) → Buf (Elt F) ℓ)

/-- The buffer of the activations' block at point `t`, over a buffer that held `d`: -/
def xOver (c : Dev nD) (t : Fin cfg0.N) (d : Vec F S256x4096 .f32) : Vec F S256x4096 .f32 :=
  (cfg0.win 0).fill (grid0.coords t) d (iblk m c 0 t)

/-- that of the weights' block, -/
def wOver (c : Dev nD) (t : Fin cfg0.N) (d : Vec F S800x4096 .f32) : Vec F S800x4096 .f32 :=
  (cfg0.win 1).fill (grid0.coords t) d (iblk m c 1 t)

/-- and the two over zeros. -/
def xAt (c : Dev nD) (t : Fin cfg0.N) : Vec F S256x4096 .f32 := xOver m c t (broadcast S256x4096 (Scalar.ofBits .f32 0x00000000#32))
def wAt (c : Dev nD) (t : Fin cfg0.N) : Vec F S800x4096 .f32 := wOver m c t (broadcast S800x4096 (Scalar.ofBits .f32 0x00000000#32))

/-- Before the last point the copies fill the buffers. -/
theorem xOver_eq (c : Dev nD) (t : Fin cfg0.N) (h : t.val < 24) (d : Vec F S256x4096 .f32) : xOver m c t d = xAt m c t :=
  Pipeline.fill_of_clip_none (cfg := cfg0) 0 (grid0.coords t) (xWhole t h) _ _ _
theorem wOver_eq (c : Dev nD) (t : Fin cfg0.N) (h : t.val < 24) (d : Vec F S800x4096 .f32) : wOver m c t d = wAt m c t :=
  Pipeline.fill_of_clip_none (cfg := cfg0) 1 (grid0.coords t) (wWhole t h) _ _ _

/-- At the last point the first 1696 columns are the copies'. -/
theorem xOver_agree (c : Dev nD) (t : Fin cfg0.N) (h : ¬ t.val < 24) (d : Vec F S256x4096 .f32) (j : S256x4096.Idx) (hj : (j 1).val < 1696) :
    xOver m c t d j = xAt m c t j := by
  have hm : (cfg0.win 0).moved (grid0.coords t) j = true :=
    ((cfg0.win 0).moved_iff _ j).mpr fun a => by
      match a with
      | ⟨0, _⟩ => exact lt_of_lt_of_eq (j 0).isLt (xCut t h).1.symm
      | ⟨1, _⟩ => exact lt_of_lt_of_eq hj (xCut t h).2.symm
  unfold xAt xOver Window.fill
  rw [dif_pos hm, dif_pos hm]
theorem wOver_agree (c : Dev nD) (t : Fin cfg0.N) (h : ¬ t.val < 24) (d : Vec F S800x4096 .f32) (j : S800x4096.Idx) (hj : (j 1).val < 1696) :
    wOver m c t d j = wAt m c t j := by
  have hm : (cfg0.win 1).moved (grid0.coords t) j = true :=
    ((cfg0.win 1).moved_iff _ j).mpr fun a => by
      match a with
      | ⟨0, _⟩ => exact lt_of_lt_of_eq (j 0).isLt (wCut t h).1.symm
      | ⟨1, _⟩ => exact lt_of_lt_of_eq hj (wCut t h).2.symm
  unfold wAt wOver Window.fill
  rw [dif_pos hm, dif_pos hm]

/-- What the accumulator holds after the point of number `n`: the block products up to it, added from zero one by one;
    the last point leaves it. -/
def accAt (c : Dev nD) : ℕ → Vec F S256x800 .f32
  | 0 => k0_pay2 k0_pay1 (xAt m c ⟨0, by decide⟩) (wAt m c ⟨0, by decide⟩)
  | n + 1 => if h : n + 1 < 24 then
      k0_pay2 (accAt c n) (xAt m c ⟨n + 1, lt_of_lt_of_eq (Nat.lt_trans h (by decide)) (show 25 = cfg0.N from N_0.symm)⟩)
        (wAt m c ⟨n + 1, lt_of_lt_of_eq (Nat.lt_trans h (by decide)) (show 25 = cfg0.N from N_0.symm)⟩)
    else accAt c n

/-- The accumulator with the last block's product and the bias, at point `t`. -/
def finished (c : Dev nD) (t : Fin cfg0.N) : Vec F S256x800 .f32 :=
  k0_pay4 (xAt m c t) (wAt m c t) (accAt m c t.val) (iblk m c 2 t)

/-- The result block at point `t`. -/
def outAt (c : Dev nD) (t : Fin cfg0.N) : Vec F S256x250 .f32 :=
  network (finished m c t) (iblk m c 3 t) (iblk m c 4 t) (iblk m c 5 t) (iblk m c 6 t) (iblk m c 7 t) (iblk m c 8 t)
    (iblk m c 9 t) (iblk m c 10 t) (iblk m c 11 t) (iblk m c 12 t) (iblk m c 13 t) (iblk m c 14 t) (iblk m c 15 t) (iblk m c 16 t)
    (iblk m c 17 t) (iblk m c 18 t)

theorem accAt_first (c : Dev nD) (t : Fin cfg0.N) (h : t.val = 0) : accAt m c t.val = k0_pay2 k0_pay1 (xAt m c t) (wAt m c t) := by
  obtain ⟨n, hn⟩ := t; subst h; rfl

theorem accAt_middle (c : Dev nD) (t : Fin cfg0.N) (h0 : t.val ≠ 0) (h : t.val < 24) :
    accAt m c t.val = k0_pay2 (accAt m c (t.val - 1)) (xAt m c t) (wAt m c t) := by
  obtain ⟨n, hn⟩ := t
  cases n with
  | zero => exact absurd rfl h0
  | succ n => show accAt m c (n + 1) = _; rw [accAt, dif_pos h]; rfl

theorem accAt_last (c : Dev nD) (t : Fin cfg0.N) (h : ¬ t.val < 24) : accAt m c t.val = accAt m c (t.val - 1) := by
  obtain ⟨n, hn⟩ := t
  cases n with
  | zero => exact absurd (show (0 : ℕ) < 24 by decide) h
  | succ n => show accAt m c (n + 1) = _; rw [accAt, dif_neg h]; rfl

end Cert.Fused

end
-- ==== Proof.Region.lean ====
module

public import proofs.«01_k».proof.Proof.RunAdd
public import proofs.«01_k».proof.Proof.RunLast
public import proofs.«01_k».proof.Proof.Blocks
public import Idealize.ShloMosaic.Lib.Pipeline.FrameBody
public import Idealize.ShloMosaic.Lib.Pipeline.Quiescent
public import Idealize.ShloMosaic.Lib.Claim

/-!
# The launch

The proof data of the launch (what each buffer holds after each point), the body's triple at a point, and the run of the
whole program: it terminates, leaves the arguments as they were and every semaphore counter at zero.
-/

@[expose] public section

set_option maxRecDepth 16384

noncomputable section

namespace Cert.Fused

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Between the points: the accumulator at what the points so far have left in it, and the generator register at some state. -/
def between (c : Dev nD) : (n : ℕ) → n ≤ cfg0.N → sProp 𝕄
  | 0, _ => Pipeline.ΦA spec0 c
  | n + 1, _ => iprop(owns (c : Thread nD τ) acc fullShare (accAt m c n) ∗ (∃ r, prngReg c r))

theorem between_start (c : Dev nD) (n : ℕ) (h : n ≤ cfg0.N) (hz : n = 0) : between m c n h = Pipeline.ΦA spec0 c := by
  subst hz; rfl

theorem between_later (c : Dev nD) (n : ℕ) (h : n ≤ cfg0.N) (hz : n ≠ 0) :
    between m c n h = iprop(owns (c : Thread nD τ) acc fullShare (accAt m c (n - 1)) ∗ (∃ r, prngReg c r)) := by
  cases n with
  | zero => exact absurd rfl hz
  | succ n => rfl

/-- What the buffers hold: the arrays at the region's entry, each input's buffer after the body at its block, the output's at
    the result. -/
def dats (_ : Fin 1) (c : Dev nD) : Dat τ (Elt F) Unit ℕ (UR sig nD τ) ℕ cfg0 c where
  A w := V m c (Pipeline.arrRef spec0 w)
  after w t := match w with
    | ⟨0, _⟩ => xAt m c t
    | ⟨1, _⟩ => wAt m c t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => outAt m c t
    | ⟨_ + 20, h⟩ => absurd h (Nat.not_lt.2 (Nat.le_add_left _ _))
  Φ t := between m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_at (c : Dev nD) (t : Fin cfg0.N) : (dats m 0 c).Φ t.castSucc = between m c t.val (Nat.le_of_lt t.isLt) := by
  dsimp only [dats]; exact Pipeline.Dat.Φ_castSucc (between m c) t

theorem Phi_next (c : Dev nD) (t : Fin cfg0.N) :
    (dats m 0 c).Φ t.succ = iprop(owns (c : Thread nD τ) acc fullShare (accAt m c t.val) ∗ (∃ r, prngReg c r)) := rfl

/-- What the two streamed inputs' buffers hold when the body runs. -/
theorem before_0 (c : Dev nD) (t : Fin cfg0.N) (d) : (dats m 0 c).before 0 t d = xOver m c t d := by
  rw [Dat.before_fetched _ 0 t (fetch0_0 t)]; rfl
theorem before_1 (c : Dev nD) (t : Fin cfg0.N) (d) : (dats m 0 c).before 1 t d = wOver m c t d := by
  rw [Dat.before_fetched _ 1 t (fetch0_1 t)]; rfl
theorem before_2 (c : Dev nD) (t : Fin cfg0.N) (d) : (dats m 0 c).before 2 t d = iblk m c 2 t :=
  before0_2_of m (dats m 0 c) (A_eq m c 2) (fun t => by dsimp only [dats]) t d
theorem before_3 (c : Dev nD) (t : Fin cfg0.N) (d) : (dats m 0 c).before 3 t d = iblk m c 3 t :=
  before0_3_of m (dats m 0 c) (A_eq m c 3) (fun t => by dsimp only [dats]) t d
theorem before_4 (c : Dev nD) (t : Fin cfg0.N) (d) : (dats m 0 c).before 4 t d = iblk m c 4 t :=
  before0_4_of m (dats m 0 c) (A_eq m c 4) (fun t => by dsimp only [dats]) t d
theorem before_5 (c : Dev nD) (t : Fin cfg0.N) (d) : (dats m 0 c).before 5 t d = iblk m c 5 t :=
  before0_5_of m (dats m 0 c) (A_eq m c 5) (fun t => by dsimp only [dats]) t d
theorem before_6 (c : Dev nD) (t : Fin cfg0.N) (d) : (dats m 0 c).before 6 t d = iblk m c 6 t :=
  before0_6_of m (dats m 0 c) (A_eq m c 6) (fun t => by dsimp only [dats]) t d
theorem before_7 (c : Dev nD) (t : Fin cfg0.N) (d) : (dats m 0 c).before 7 t d = iblk m c 7 t :=
  before0_7_of m (dats m 0 c) (A_eq m c 7) (fun t => by dsimp only [dats]) t d
theorem before_8 (c : Dev nD) (t : Fin cfg0.N) (d) : (dats m 0 c).before 8 t d = iblk m c 8 t :=
  before0_8_of m (dats m 0 c) (A_eq m c 8) (fun t => by dsimp only [dats]) t d
theorem before_9 (c : Dev nD) (t : Fin cfg0.N) (d) : (dats m 0 c).before 9 t d = iblk m c 9 t :=
  before0_9_of m (dats m 0 c) (A_eq m c 9) (fun t => by dsimp only [dats]) t d
theorem before_10 (c : Dev nD) (t : Fin cfg0.N) (d) : (dats m 0 c).before 10 t d = iblk m c 10 t :=
  before0_10_of m (dats m 0 c) (A_eq m c 10) (fun t => by dsimp only [dats]) t d
theorem before_11 (c : Dev nD) (t : Fin cfg0.N) (d) : (dats m 0 c).before 11 t d = iblk m c 11 t :=
  before0_11_of m (dats m 0 c) (A_eq m c 11) (fun t => by dsimp only [dats]) t d
theorem before_12 (c : Dev nD) (t : Fin cfg0.N) (d) : (dats m 0 c).before 12 t d = iblk m c 12 t :=
  before0_12_of m (dats m 0 c) (A_eq m c 12) (fun t => by dsimp only [dats]) t d
theorem before_13 (c : Dev nD) (t : Fin cfg0.N) (d) : (dats m 0 c).before 13 t d = iblk m c 13 t :=
  before0_13_of m (dats m 0 c) (A_eq m c 13) (fun t => by dsimp only [dats]) t d
theorem before_14 (c : Dev nD) (t : Fin cfg0.N) (d) : (dats m 0 c).before 14 t d = iblk m c 14 t :=
  before0_14_of m (dats m 0 c) (A_eq m c 14) (fun t => by dsimp only [dats]) t d
theorem before_15 (c : Dev nD) (t : Fin cfg0.N) (d) : (dats m 0 c).before 15 t d = iblk m c 15 t :=
  before0_15_of m (dats m 0 c) (A_eq m c 15) (fun t => by dsimp only [dats]) t d
theorem before_16 (c : Dev nD) (t : Fin cfg0.N) (d) : (dats m 0 c).before 16 t d = iblk m c 16 t :=
  before0_16_of m (dats m 0 c) (A_eq m c 16) (fun t => by dsimp only [dats]) t d
theorem before_17 (c : Dev nD) (t : Fin cfg0.N) (d) : (dats m 0 c).before 17 t d = iblk m c 17 t :=
  before0_17_of m (dats m 0 c) (A_eq m c 17) (fun t => by dsimp only [dats]) t d
theorem before_18 (c : Dev nD) (t : Fin cfg0.N) (d) : (dats m 0 c).before 18 t d = iblk m c 18 t :=
  before0_18_of m (dats m 0 c) (A_eq m c 18) (fun t => by dsimp only [dats]) t d

/-- The body may leave in a streamed input's buffer its block over anything, -/
theorem leaves_0 (c : Dev nD) (t : Fin cfg0.N) (d : Vec F S256x4096 .f32) :
    owns (c : Thread nD τ) (stg0 t) fullShare (xOver m c t d) ⊢ ((dats m 0 c).leaves 0 t : sProp 𝕄) := by
  have e : (dats m 0 c).leaves 0 t = iprop(∃ d, owns (c : Thread nD τ) (stg0 t) fullShare ((cfg0.win 0).fill (cfg0.grid.coords t) d ((cfg0.win 0).cut (cfg0.grid.coords t) (xAt m c t)))) := rfl
  rw [e]
  iintro H; iexists d
  unfold xAt xOver
  rw [(cfg0.win 0).cut_fill]
  iexact H
theorem leaves_1 (c : Dev nD) (t : Fin cfg0.N) (d : Vec F S800x4096 .f32) :
    owns (c : Thread nD τ) (stg1 t) fullShare (wOver m c t d) ⊢ ((dats m 0 c).leaves 1 t : sProp 𝕄) := by
  have e : (dats m 0 c).leaves 1 t = iprop(∃ d, owns (c : Thread nD τ) (stg1 t) fullShare ((cfg0.win 1).fill (cfg0.grid.coords t) d ((cfg0.win 1).cut (cfg0.grid.coords t) (wAt m c t)))) := rfl
  rw [e]
  iintro H; iexists d
  unfold wAt wOver
  rw [(cfg0.win 1).cut_fill]
  iexact H
/-- leaves the other inputs' as they were, -/
theorem leaves_2 (c : Dev nD) (t : Fin cfg0.N) :
    ((dats m 0 c).leaves 2 t : sProp 𝕄) = owns (c : Thread nD τ) (stg2 t) fullShare (iblk m c 2 t) := rfl
theorem leaves_3 (c : Dev nD) (t : Fin cfg0.N) :
    ((dats m 0 c).leaves 3 t : sProp 𝕄) = owns (c : Thread nD τ) (stg3 t) fullShare (iblk m c 3 t) := rfl
theorem leaves_4 (c : Dev nD) (t : Fin cfg0.N) :
    ((dats m 0 c).leaves 4 t : sProp 𝕄) = owns (c : Thread nD τ) (stg4 t) fullShare (iblk m c 4 t) := rfl
theorem leaves_5 (c : Dev nD) (t : Fin cfg0.N) :
    ((dats m 0 c).leaves 5 t : sProp 𝕄) = owns (c : Thread nD τ) (stg5 t) fullShare (iblk m c 5 t) := rfl
theorem leaves_6 (c : Dev nD) (t : Fin cfg0.N) :
    ((dats m 0 c).leaves 6 t : sProp 𝕄) = owns (c : Thread nD τ) (stg6 t) fullShare (iblk m c 6 t) := rfl
theorem leaves_7 (c : Dev nD) (t : Fin cfg0.N) :
    ((dats m 0 c).leaves 7 t : sProp 𝕄) = owns (c : Thread nD τ) (stg7 t) fullShare (iblk m c 7 t) := rfl
theorem leaves_8 (c : Dev nD) (t : Fin cfg0.N) :
    ((dats m 0 c).leaves 8 t : sProp 𝕄) = owns (c : Thread nD τ) (stg8 t) fullShare (iblk m c 8 t) := rfl
theorem leaves_9 (c : Dev nD) (t : Fin cfg0.N) :
    ((dats m 0 c).leaves 9 t : sProp 𝕄) = owns (c : Thread nD τ) (stg9 t) fullShare (iblk m c 9 t) := rfl
theorem leaves_10 (c : Dev nD) (t : Fin cfg0.N) :
    ((dats m 0 c).leaves 10 t : sProp 𝕄) = owns (c : Thread nD τ) (stg10 t) fullShare (iblk m c 10 t) := rfl
theorem leaves_11 (c : Dev nD) (t : Fin cfg0.N) :
    ((dats m 0 c).leaves 11 t : sProp 𝕄) = owns (c : Thread nD τ) (stg11 t) fullShare (iblk m c 11 t) := rfl
theorem leaves_12 (c : Dev nD) (t : Fin cfg0.N) :
    ((dats m 0 c).leaves 12 t : sProp 𝕄) = owns (c : Thread nD τ) (stg12 t) fullShare (iblk m c 12 t) := rfl
theorem leaves_13 (c : Dev nD) (t : Fin cfg0.N) :
    ((dats m 0 c).leaves 13 t : sProp 𝕄) = owns (c : Thread nD τ) (stg13 t) fullShare (iblk m c 13 t) := rfl
theorem leaves_14 (c : Dev nD) (t : Fin cfg0.N) :
    ((dats m 0 c).leaves 14 t : sProp 𝕄) = owns (c : Thread nD τ) (stg14 t) fullShare (iblk m c 14 t) := rfl
theorem leaves_15 (c : Dev nD) (t : Fin cfg0.N) :
    ((dats m 0 c).leaves 15 t : sProp 𝕄) = owns (c : Thread nD τ) (stg15 t) fullShare (iblk m c 15 t) := rfl
theorem leaves_16 (c : Dev nD) (t : Fin cfg0.N) :
    ((dats m 0 c).leaves 16 t : sProp 𝕄) = owns (c : Thread nD τ) (stg16 t) fullShare (iblk m c 16 t) := rfl
theorem leaves_17 (c : Dev nD) (t : Fin cfg0.N) :
    ((dats m 0 c).leaves 17 t : sProp 𝕄) = owns (c : Thread nD τ) (stg17 t) fullShare (iblk m c 17 t) := rfl
theorem leaves_18 (c : Dev nD) (t : Fin cfg0.N) :
    ((dats m 0 c).leaves 18 t : sProp 𝕄) = owns (c : Thread nD τ) (stg18 t) fullShare (iblk m c 18 t) := rfl
/-- and the output's as it was before the last point, -/
theorem leaves_19_idle (c : Dev nD) (t : Fin cfg0.N) (h : t.val < 24) :
    ((dats m 0 c).leaves 19 t : sProp 𝕄) = iprop(∃ d, owns (c : Thread nD τ) (stg19 t) fullShare ((dats m 0 c).before 19 t d)) :=
  Dat.leaves_idle (dats m 0 c) 19 t (outIdle t h) (outKept t h)
/-- at the result there. -/
theorem leaves_19_last (c : Dev nD) (t : Fin cfg0.N) (h : ¬ t.val < 24) :
    ((dats m 0 c).leaves 19 t : sProp 𝕄) = owns (c : Thread nD τ) (stg19 t) fullShare (outAt m c t) := by
  unfold Dat.leaves; rw [outLive t h]; rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d))
    ∗ (∃ d, owns (c : Thread nD τ) (stg8 t) fullShare ((dats m 0 c).before 8 t d))
    ∗ (∃ d, owns (c : Thread nD τ) (stg9 t) fullShare ((dats m 0 c).before 9 t d))
    ∗ (∃ d, owns (c : Thread nD τ) (stg10 t) fullShare ((dats m 0 c).before 10 t d))
    ∗ (∃ d, owns (c : Thread nD τ) (stg11 t) fullShare ((dats m 0 c).before 11 t d))
    ∗ (∃ d, owns (c : Thread nD τ) (stg12 t) fullShare ((dats m 0 c).before 12 t d))
    ∗ (∃ d, owns (c : Thread nD τ) (stg13 t) fullShare ((dats m 0 c).before 13 t d))
    ∗ (∃ d, owns (c : Thread nD τ) (stg14 t) fullShare ((dats m 0 c).before 14 t d))
    ∗ (∃ d, owns (c : Thread nD τ) (stg15 t) fullShare ((dats m 0 c).before 15 t d))
    ∗ (∃ d, owns (c : Thread nD τ) (stg16 t) fullShare ((dats m 0 c).before 16 t d))
    ∗ (∃ d, owns (c : Thread nD τ) (stg17 t) fullShare ((dats m 0 c).before 17 t d))
    ∗ (∃ d, owns (c : Thread nD τ) (stg18 t) fullShare ((dats m 0 c).before 18 t d))
    ∗ (∃ d, owns (c : Thread nD τ) (stg19 t) fullShare ((dats m 0 c).before 19 t d)))

/-- and what it returns. -/
def bodyPost (c : Dev nD) (t : Fin cfg0.N) : sProp 𝕄 :=
  iprop((dats m 0 c).Φ t.succ ∗ (dats m 0 c).owesAt () t.succ
    ∗ (dats m 0 c).leaves 0 t
    ∗ (dats m 0 c).leaves 1 t
    ∗ (dats m 0 c).leaves 2 t
    ∗ (dats m 0 c).leaves 3 t
    ∗ (dats m 0 c).leaves 4 t
    ∗ (dats m 0 c).leaves 5 t
    ∗ (dats m 0 c).leaves 6 t
    ∗ (dats m 0 c).leaves 7 t
    ∗ (dats m 0 c).leaves 8 t
    ∗ (dats m 0 c).leaves 9 t
    ∗ (dats m 0 c).leaves 10 t
    ∗ (dats m 0 c).leaves 11 t
    ∗ (dats m 0 c).leaves 12 t
    ∗ (dats m 0 c).leaves 13 t
    ∗ (dats m 0 c).leaves 14 t
    ∗ (dats m 0 c).leaves 15 t
    ∗ (dats m 0 c).leaves 16 t
    ∗ (dats m 0 c).leaves 17 t
    ∗ (dats m 0 c).leaves 18 t
    ∗ (dats m 0 c).leaves 19 t)

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15, before_16, before_17, before_18]
  rw [show (dats m 0 c).owesAt () t.succ = (dats m 0 c).owesAt () t.castSucc from rfl, Phi_next, Phi_at]
  simp only [leaves_2, leaves_3, leaves_4, leaves_5, leaves_6, leaves_7, leaves_8, leaves_9, leaves_10, leaves_11, leaves_12, leaves_13, leaves_14, leaves_15, leaves_16, leaves_17, leaves_18]
  by_cases h0 : t.val = 0
  · have h1 : t.val < 24 := by omega
    rw [between_start m c _ _ h0, regionStart, leaves_19_idle m c t h1, accAt_first m c t h0]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
    rw [← xOver_eq m c t h1 d0, ← wOver_eq m c t h1 d1]
    iapply (run_first c (grid0.coords t) _ _ _ _ _ _ _ _ _ _ _ _ _ _ _ _ _ _ _ _ _ _ _ _ _ _ _ _ _ _ _ _ _ _ _ _ _ _ _ _ _ _ ((atFirst_iff t).mpr h0) ((beforeLast_iff t).mpr h1) (fun h => (atLast_iff t).mp h h1) (xOver m c t d0) (wOver m c t d1)  Set.univ _)
    isplitl [H0]; · iexact H0
    isplitl [H1]; · iexact H1
    isplitl [HS]; · iexact HS
    iintro ⟨H0, H1, HS⟩
    isplitl [HS Hg]
    · isplitl [HS]; · iexact HS
      iexact Hg
    isplitl [Ho]; · iexact Ho
    isplitl [H0]; · iapply leaves_0 m c t d0; iexact H0
    isplitl [H1]; · iapply leaves_1 m c t d1; iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexists d19; iexact H19
  rw [between_later m c _ _ h0]
  by_cases h1 : t.val < 24
  · rw [leaves_19_idle m c t h1, accAt_middle m c t h0 h1]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
    rw [← xOver_eq m c t h1 d0, ← wOver_eq m c t h1 d1]
    iapply (run_middle c (grid0.coords t) _ _ _ _ _ _ _ _ _ _ _ _ _ _ _ _ _ _ _ _ _ _ _ _ _ _ _ _ _ _ _ _ _ _ _ _ _ _ _ _ _ _ (fun h => h0 ((atFirst_iff t).mp h)) ((beforeLast_iff t).mpr h1) (fun h => (atLast_iff t).mp h h1) (xOver m c t d0) (wOver m c t d1) (accAt m c (t.val - 1)) Set.univ _)
    isplitl [H0]; · iexact H0
    isplitl [H1]; · iexact H1
    isplitl [HS]; · iexact HS
    iintro ⟨H0, H1, HS⟩
    isplitl [HS Hg]
    · isplitl [HS]; · iexact HS
      iexact Hg
    isplitl [Ho]; · iexact Ho
    isplitl [H0]; · iapply leaves_0 m c t d0; iexact H0
    isplitl [H1]; · iapply leaves_1 m c t d1; iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexists d19; iexact H19
  · rw [leaves_19_last m c t h1]
    unfold outAt finished
    rw [accAt_last m c t h1]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
    rw [finished_congr (xAt m c t) (xOver m c t d0) (wAt m c t) (wOver m c t d1) _ _ (fun j hj => (xOver_agree m c t h1 d0 j hj).symm)
      (fun j hj => (wOver_agree m c t h1 d1 j hj).symm)]
    iapply (run_last c (grid0.coords t) _ _ _ _ _ _ _ _ _ _ _ _ _ _ _ _ _ _ _ _ _ _ _ _ _ _ _ _ _ _ _ _ _ _ _ _ _ _ _ _ _ _ (fun h => h0 ((atFirst_iff t).mp h)) (fun h => h1 ((beforeLast_iff t).mp h)) ((atLast_iff t).mpr h1) (xOver m c t d0) (wOver m c t d1) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (accAt m c (t.val - 1)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexists _; iexact H19
    isplitl [HS]; · iexact HS
    iintro ⟨H0, H1, H2, H3, H4, H5, H6, H7, H8, H9, H10, H11, H12, H13, H14, H15, H16, H17, H18, H19, HS⟩
    isplitl [HS Hg]
    · isplitl [HS]; · iexact HS
      iexact Hg
    isplitl [Ho]; · iexact Ho
    isplitl [H0]; · iapply leaves_0 m c t d0; iexact H0
    isplitl [H1]; · iapply leaves_1 m c t d1; iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19

/-- The body table's row at point `t`'s slots is the body. -/
theorem row_eq (t : Fin cfg0.N) : defs₀ (F := F) .tc cfg0.body (cfg0.bodyArgs t (cfg0.slots t)) = bodyAt0 t := by
  unfold defs₀; rw [Defs.onTc_tc]

/-- The body's obligation at every point. -/
theorem body_obligation (c : Dev nD) : BodyObligationLoose (dats (F := F) m 0 c) (defs₀ (F := F)) Variants.none () Set.univ := fun t => by
  rw [bigSep_W0, bigSep_W0, row_eq]
  exact triple_restated (sound_body m c t) rfl .rfl fun _ => .rfl

/-- What the launch hands the region is the invariant before the first point, -/
theorem entry (c : Dev nD) : Pipeline.ΦA spec0 c ⊢ (dats m 0 c).Φ 0 := by
  rw [show (dats m 0 c).Φ 0 = between m c 0 (Nat.zero_le _) from rfl, between_start m c 0 _ rfl]

/-- and the invariant after the last gives it back. -/
theorem exit (c : Dev nD) : (dats m 0 c).Φ (Fin.last cfg0.N) ⊢ Pipeline.ΦA spec0 c := by
  rw [show (dats m 0 c).Φ (Fin.last cfg0.N) = between m c cfg0.N (Nat.le_refl _) from rfl,
    between_later m c _ _ (by rw [show cfg0.N = 25 from N_0]; decide), regionStart]
  iintro ⟨HS, Hg⟩
  isplitl [HS]
  · iexists _; iexact HS
  iexact Hg

set_option backward.isDefEq.respectTransparency.types false in
/-- The program's run: every array of the launch ends at what the proof data say, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hin := entry m) (hout := exit m)

theorem run_main : θ_run defs (onTc (τ := τ) (main (F := F))) (s₀ m ρ) (Pipeline.FramePost cfgs (dats m) 0 (V m)) :=
  (θ_run defs _ _).mono (fun _ h => h.1) (run_main_quiescent m ρ)

/-- The frame: the program terminates, the arguments end as they were, the counters end at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18))
      ∧ r.2.sem = fun _ => 0) :=
  θ_run_and (frame_of m ρ (dats m) (A_eq m) (run_main m ρ)) ((θ_run defs _ _).mono (fun _ h => h.2) (run_main_quiescent m ρ))

end Cert.Fused

end
-- ==== Proof.Same.lean ====
module

public import proofs.«01_k».proof.Proof.Region
public import proofs.«01_k».proof.Proof.Gen.Kernel
public import proofs.«01_k».proof.Defs

/-!
# The kernel's frame from its idealization's

No operation of the kernel is rewritten in its idealization: the two programs are the same text over the same buffers. So the
idealization's frame, which holds for any floats, at the machine's floats is the kernel's.
-/

@[expose] public section

set_option maxRecDepth 65536

noncomputable section

namespace Cert.Fused

open Idealize.ShloMosaic Idealize.ShloMosaic.TcCoe Idealize.SL.Sem

variable {F : FTy → Type} [FloatOps F]

/-- The two bodies are the same text. -/
theorem body_eq : Cert.Kernel.cc0__fused (F := F) = Cert.KernelIdeal.cc0__fused (F := F) := rfl

set_option maxHeartbeats 4000000 in
/-- The two body tables are the same. -/
theorem table_eq : Cert.Kernel.defs₀ (F := F) = Cert.KernelIdeal.defs₀ (F := F) := by
  unfold Cert.Kernel.defs₀ Cert.KernelIdeal.defs₀
  refine congrArg (Defs.onTc (nD := Cert.KernelIdeal.nD) (τ := Cert.KernelIdeal.τ) (sig := Cert.KernelIdeal.sig) (Λ := Cert.KernelIdeal.Λ₀)) ?_
  funext l x
  match l, x with
  | 0, (t, s) =>
    have e := body_eq (F := F)
    change Cert.Kernel.cc0__fused (F := F) _ _ _ _ _ _ _ _ _ _ _ _ _ _ _ _ _ _ _ _ _ _ _ _ _ _ _ _ _ _ _ _ _ _ _ _ _ _ _ _ _ _ _ = _
    rw [e]
    rfl
  | ⟨_ + 1, h⟩, _ => exact absurd h (Nat.not_lt.2 (Nat.le_add_left _ _))

theorem defs_eq : Cert.Kernel.defs (F := F) = Cert.KernelIdeal.defs (F := F) := by
  unfold Cert.Kernel.defs Cert.KernelIdeal.defs
  rw [table_eq]
  rfl

theorem main_eq : Cert.Kernel.main (F := F) = Cert.KernelIdeal.main (F := F) := rfl

set_option maxHeartbeats 4000000 in
/-- The kernel terminates, leaves its arguments and ends with every semaphore counter at zero. -/
theorem frame_kernel : Cert.quiescent_Kernel := by
  intro m g _
  rw [defs_eq, main_eq]
  exact frame (F := Bits) m g

end Cert.Fused

end
-- ==== Proof.Plain.lean ====
module

public import proofs.«01_k».proof.Proof.Network

/-!
# The same layers in the plain program's operations

The reference normalises, keeps the largest entries and multiplies in the operations of the host: a sum with an initial
value, a sort for the `k`-th largest entry, a product with a transposed matrix. The functions here are those steps for a
matrix of 256 rows and any width; the reference and the precondition are both built from them.
-/

@[expose] public section

set_option maxRecDepth 16384

noncomputable section

namespace Cert.Fused

open Idealize.ShloMosaic Idealize.ShloMosaic.TcCoe

variable {F : FTy → Type} [FloatOps F]

/-- The shape of a vector of `n` entries, -/
abbrev Flat (n : ℕ) : Shape := ⟨1, ![n]⟩
/-- and of a single number. -/
abbrev Point : Shape := ⟨0, ![]⟩

theorem point_pos : 0 < Point.numel := by decide
theorem point_col : Point.BroadcastsInDim Col (![] : Fin 0 → Fin Col.rank) := by decide
theorem flat_col : (Flat 256).BroadcastsInDim Col (![0] : Fin 1 → Fin Col.rank) := by decide

/-- The shape facts the plain steps use at width `n`. -/
structure PlainWidth (n : ℕ) : Prop where
  red : (Mat n).ReducesTo [1] (Flat 256)
  col : Col.BroadcastsInDim (Mat n) (![0, 1] : Fin 2 → Fin (Mat n).rank)
  row : (Row n).BroadcastsInDim (Mat n) (![0, 1] : Fin 2 → Fin (Mat n).rank)
  one : (Flat n).BroadcastsInDim (Row n) (![1] : Fin 1 → Fin (Row n).rank)
  all : Point.BroadcastsInDim (Mat n) (![] : Fin 0 → Fin (Mat n).rank)
  every : (Mat n).ReducesTo [0, 1] Point

theorem plain800 : PlainWidth 800 := ⟨by decide, by decide, by decide, by decide, by decide, by decide⟩
theorem plain571 : PlainWidth 571 := ⟨by decide, by decide, by decide, by decide, by decide, by decide⟩
theorem plain500 : PlainWidth 500 := ⟨by decide, by decide, by decide, by decide, by decide, by decide⟩
theorem plain250 : PlainWidth 250 := ⟨by decide, by decide, by decide, by decide, by decide, by decide⟩

/-- The shape facts of taking the `k` largest entries of `n`, and the last of them at position `l`. -/
structure Largest (n k l : ℕ) : Prop where
  fits : (Mat n).Slices (fun _ => 0) (Mat k)
  last : (Mat k).Slices ![0, l] Col

theorem largest800 : Largest 800 280 279 := ⟨by decide, by decide⟩
theorem largest571 : Largest 571 199 198 := ⟨by decide, by decide⟩
theorem largest500 : Largest 500 175 174 := ⟨by decide, by decide⟩
theorem largest250 : Largest 250 87 86 := ⟨by decide, by decide⟩

variable {n k l : ℕ}

/-- A literal at every row. -/
def plainLit (w : BitVec 32) : FVec F Col .f32 := broadcastInDim Col ![] point_col (constant Point .f32 w)

/-- The sum of each row. -/
def plainSum (P : PlainWidth n) (h : FVec F (Mat n) .f32) : FVec F Col .f32 :=
  broadcastInDim Col ![0] flat_col (Host.reduceAdd h (constant Point .f32 0x00000000#32) P.red point_pos)

/-- A column put at every entry of its row. -/
def across (P : PlainWidth n) (v : FVec F Col .f32) : FVec F (Mat n) .f32 := broadcastInDim (Mat n) ![0, 1] P.col v

/-- A vector put at each of the 256 rows. -/
def plainSpread (P : PlainWidth n) (v : FVec F (Flat n) .f32) : FVec F (Mat n) .f32 :=
  broadcastInDim (Mat n) ![0, 1] P.row (broadcastInDim (Row n) ![1] P.one v)

/-- The mean of each row; `wn` is the word of the width. -/
def plainMean (P : PlainWidth n) (wn : BitVec 32) (h : FVec F (Mat n) .f32) : FVec F Col .f32 :=
  Host.divf (plainSum P h) (plainLit wn)

/-- Each entry less its row's mean. -/
def plainCentred (P : PlainWidth n) (wn : BitVec 32) (h : FVec F (Mat n) .f32) : FVec F (Mat n) .f32 :=
  subf h (across P (plainMean P wn h))

/-- The number of degrees of freedom: the width less a zero correction. -/
def freedom (wn : BitVec 32) : FVec F Point .f32 := subf (constant Point .f32 wn) (sitofp .f32 (constantI Point 32 0#32))

/-- The variance of each row, guarded against a width of zero. -/
def plainVar (P : PlainWidth n) (wn : BitVec 32) (h : FVec F (Mat n) .f32) : FVec F Col .f32 :=
  select (broadcastInDim Col ![] point_col (cmpf .ogt (freedom (F := F) wn) (constant Point .f32 0x00000000#32)))
    (Host.divf (plainSum P (mulf (plainCentred P wn h) (plainCentred P wn h))) (broadcastInDim Col ![] point_col (freedom wn)))
    (broadcastInDim Col ![] point_col (id (constant Point .f32 0x7FC00000#32)))

/-- Layer normalisation with scale `g` and offset `b`. -/
def plainNormalise (P : PlainWidth n) (wn : BitVec 32) (h : FVec F (Mat n) .f32) (g b : FVec F (Flat n) .f32) : FVec F (Mat n) .f32 :=
  addf (mulf (Host.divf (plainCentred P wn h) (across P (Host.sqrt (addf (plainVar P wn h) (plainLit 0x3727C5AC#32)))))
    (plainSpread P g)) (plainSpread P b)

/-- The `k`-th largest entry of each row (`l` is `k - 1`). -/
def kth (L : Largest n k l) (h : FVec F (Mat n) .f32) : FVec F Col .f32 :=
  extractStridedSlice Col ![0, l] (Host.topK (Mat k) 1 (FloatOps.cmpfTotal .gt) h L.fits).1 L.last

/-- The entries of each row that are at least its `k`-th largest, the others replaced by zero. -/
def plainKeep (P : PlainWidth n) (L : Largest n k l) (h : FVec F (Mat n) .f32) : FVec F (Mat n) .f32 :=
  select (cmpf .oge h (across P (kth L h))) h (broadcastInDim (Mat n) ![] P.all (constant Point .f32 0x00000000#32))

/-- The dimension numbers of a product of a `256 × p` matrix with a `p × q` one. -/
def times {p q : ℕ} (wf : DotDims.WF (Mat p) ⟨2, ![p, q]⟩ (Mat q) [1] [0] [0] [1] [] []) : DotDims (Mat p) ⟨2, ![p, q]⟩ (Mat q) where
  lhsContracting := [1]
  rhsContracting := [0]
  lhsNonContracting := [0]
  rhsNonContracting := [1]
  lhsBatch := []
  rhsBatch := []
  wf := wf

/-- The shape facts of a product of a `256 × p` matrix with the transpose of a `q × p` one. -/
structure Product (p q : ℕ) : Prop where
  dot : DotDims.WF (Mat p) ⟨2, ![p, q]⟩ (Mat q) [1] [0] [0] [1] [] []
  turn : (⟨2, ![q, p]⟩ : Shape).Transposes [1, 0] ⟨2, ![p, q]⟩

theorem product800 : Product 100000 800 := ⟨by decide, by decide⟩
theorem product571 : Product 800 571 := ⟨by decide, by decide⟩
theorem product500 : Product 571 500 := ⟨by decide, by decide⟩
theorem product250 : Product 500 250 := ⟨by decide, by decide⟩
theorem productLast : Product 250 250 := ⟨by decide, by decide⟩

/-- A product with the transpose of a weight matrix, plus a bias. -/
def plainDense {p q : ℕ} (P : PlainWidth q) (D : Product p q)
    (h : FVec F (Mat p) .f32) (w : FVec F ⟨2, ![q, p]⟩ .f32) (b : FVec F (Flat q) .f32) : FVec F (Mat q) .f32 :=
  addf (Host.dotGeneral (times D.dot) none h (transpose ⟨2, ![p, q]⟩ [1, 0] w D.turn)) (plainSpread P b)

/-- The least entry of each row. -/
def plainMin (P : PlainWidth n) (h : FVec F (Mat n) .f32) : FVec F Col .f32 :=
  broadcastInDim Col ![0] flat_col (Host.reduce FloatOps.minimumf h (constant Point .f32 0x7F800000#32) P.red point_pos)

/-- The greatest entry of each row. -/
def plainMax (P : PlainWidth n) (h : FVec F (Mat n) .f32) : FVec F Col .f32 :=
  broadcastInDim Col ![0] flat_col (Host.reduce FloatOps.maximumf h (constant Point .f32 0xFF800000#32) P.red point_pos)

/-- The width of the range of each row: the greatest entry raised by a millionth, less the least. -/
def range (P : PlainWidth n) (h : FVec F (Mat n) .f32) : FVec F Col .f32 :=
  subf (addf (plainMax P h) (mulf (addf (Host.absf (plainMax P h)) (plainLit 0x3F800000#32)) (plainLit 0x358637BD#32))) (plainMin P h)

/-- Whether an entry is finite, and at least its row's `k`-th largest or below it by a `2 ^ -20`-th of the range. -/
def entryApart (P : PlainWidth n) (L : Largest n k l) (h : FVec F (Mat n) .f32) : IVec (Mat n) 1 :=
  andi (cmpf .olt (Host.absf h) (broadcastInDim (Mat n) ![] P.all (constant Point .f32 0x7F800000#32)))
    (ori (cmpf .oge h (across P (kth L h)))
      (cmpf .ole h (across P (subf (kth L h) (mulf (range P h) (plainLit 0x35800000#32))))))

/-- Whether every entry is so, -/
def apart (P : PlainWidth n) (L : Largest n k l) (h : FVec F (Mat n) .f32) : IVec Point 1 :=
  Host.reduce IntOp.andi (entryApart P L h) (constantI Point 1 1#1) P.every point_pos

/-- and whether every entry of a row is. -/
def rowApart (P : PlainWidth n) (L : Largest n k l) (h : FVec F (Mat n) .f32) : IVec Col 1 :=
  broadcastInDim Col ![0] flat_col (Host.reduce IntOp.andi (entryApart P L h) (constantI Point 1 1#1) P.red point_pos)

/-! ### The composition -/

section Composition

variable (x : FVec F (Mat 100000) .f32) (w1 : FVec F ⟨2, ![800, 100000]⟩ .f32) (b1 g1 e1 : FVec F (Flat 800) .f32)
  (w2 : FVec F ⟨2, ![571, 800]⟩ .f32) (b2 g2 e2 : FVec F (Flat 571) .f32)
  (w3 : FVec F ⟨2, ![500, 571]⟩ .f32) (b3 g3 e3 : FVec F (Flat 500) .f32)
  (w4 : FVec F ⟨2, ![250, 500]⟩ .f32) (b4 g4 e4 : FVec F (Flat 250) .f32)
  (w5 : FVec F ⟨2, ![250, 250]⟩ .f32) (b5 : FVec F (Flat 250) .f32)

/-- The normalised activations of the first layer, -/
def first : FVec F (Mat 800) .f32 := plainNormalise plain800 0x44480000#32 (plainDense plain800 product800 x w1 b1) g1 e1

/-- of the second, -/
def second : FVec F (Mat 571) .f32 :=
  plainNormalise plain571 0x440EC000#32 (plainDense plain571 product571 (plainKeep plain800 largest800 (first x w1 b1 g1 e1)) w2 b2) g2 e2

/-- of the third, -/
def third : FVec F (Mat 500) .f32 :=
  plainNormalise plain500 0x43FA0000#32
    (plainDense plain500 product500 (plainKeep plain571 largest571 (second x w1 b1 g1 e1 w2 b2 g2 e2)) w3 b3) g3 e3

/-- and of the fourth. -/
def fourth : FVec F (Mat 250) .f32 :=
  plainNormalise plain250 0x437A0000#32
    (plainDense plain250 product250 (plainKeep plain500 largest500 (third x w1 b1 g1 e1 w2 b2 g2 e2 w3 b3 g3 e3)) w4 b4) g4 e4

/-- The result of the plain program. -/
def plainNetwork : FVec F (Mat 250) .f32 :=
  plainDense plain250 productLast (plainKeep plain250 largest250 (fourth x w1 b1 g1 e1 w2 b2 g2 e2 w3 b3 g3 e3 w4 b4 g4 e4)) w5 b5

/-- The precondition: the activations of each of the four layers are finite and well apart. -/
def allApart : IVec Point 1 :=
  andi (andi (andi (apart plain800 largest800 (first x w1 b1 g1 e1)) (apart plain571 largest571 (second x w1 b1 g1 e1 w2 b2 g2 e2)))
    (apart plain500 largest500 (third x w1 b1 g1 e1 w2 b2 g2 e2 w3 b3 g3 e3)))
    (apart plain250 largest250 (fourth x w1 b1 g1 e1 w2 b2 g2 e2 w3 b3 g3 e3 w4 b4 g4 e4))

/-- The mask: the activations of the entry's row are finite and well apart in each of the four layers. -/
def rowsApart : IVec (Mat 250) 1 :=
  broadcastInDim (Mat 250) ![0, 1] plain250.col
    (andi (andi (andi (rowApart plain800 largest800 (first x w1 b1 g1 e1)) (rowApart plain571 largest571 (second x w1 b1 g1 e1 w2 b2 g2 e2)))
      (rowApart plain500 largest500 (third x w1 b1 g1 e1 w2 b2 g2 e2 w3 b3 g3 e3)))
      (rowApart plain250 largest250 (fourth x w1 b1 g1 e1 w2 b2 g2 e2 w3 b3 g3 e3 w4 b4 g4 e4)))

end Composition

end Cert.Fused

end
-- ==== Proof.Rows.lean ====
module

public import proofs.«01_k».proof.Proof.Plain
public import Idealize.ShloMosaic.Lib.Pipeline.Value
public import Idealize.ShloMosaic.Lib.ValueIdx
public import Idealize.ShloMosaic.Lib.KernelVsHost

/-!
# The layout steps read at an entry

Columns and rows put across a matrix, and the reductions of a row, read at an entry: for the kernel's operations and
for the plain ones, so that the two agree.
-/

@[expose] public section

noncomputable section

namespace Cert.Fused

open Idealize.ShloMosaic Idealize.ShloMosaic.TcCoe Idealize.ShloMosaic.ValueIdx Cert.KernelIdeal Cert.KernelIdeal.Gen

variable {α : Type} {n k : ℕ}

/-- A column put across a matrix, read at an entry. -/
theorem column_apply (W : Width n) (v : Col.Idx → α) (i : Fin 256) (c : Fin n) :
    broadcastTo (Mat n) v W.col (ix2 i c) = v (ix2 i 0) :=
  broadcastTo_apply v W.col _ _ fun a => by
    match a with
    | ⟨0, _⟩ => rfl
    | ⟨1, _⟩ => rfl

theorem acrossOf_apply (P : PlainWidth n) (v : Col.Idx → α) (i : Fin 256) (c : Fin n) :
    broadcastInDim (Mat n) ![0, 1] P.col v (ix2 i c) = v (ix2 i 0) :=
  broadcastInDim_apply ![0, 1] P.col v _ _ fun a => by
    match a with
    | ⟨0, _⟩ => rfl
    | ⟨1, _⟩ => rfl

/-- The two ways of putting a column across a matrix agree. -/
theorem acrossOf_eq (P : PlainWidth n) (W : Width n) (v : Col.Idx → α) :
    broadcastInDim (Mat n) ![0, 1] P.col v = broadcastTo (Mat n) v W.col := by
  funext j
  rw [eq_ix2 j]
  exact (acrossOf_apply P v (j 0) (j 1)).trans (column_apply W v (j 0) (j 1)).symm

/-- A row put at every row of a matrix, read at an entry. -/
theorem rowOf_apply (W : Width n) (v : (Row n).Idx → α) (i : Fin 256) (c : Fin n) :
    broadcastTo (Mat n) v W.row (ix2 i c) = v (ix2 0 c) :=
  broadcastTo_apply v W.row _ _ fun a => by
    match a with
    | ⟨0, _⟩ => rfl
    | ⟨1, _⟩ =>
      show c.val = if n = 1 then 0 else c.val
      split_ifs with h
      · have := c.isLt; omega
      · rfl

theorem plainRowOf_apply (P : PlainWidth n) (v : (Flat n).Idx → α) (i : Fin 256) (c : Fin n) :
    broadcastInDim (Mat n) ![0, 1] P.row (broadcastInDim (Row n) ![1] P.one v) (ix2 i c) = v (ix1 c) := by
  refine (broadcastInDim_oneRow_apply P.row _ i c).trans ?_
  refine broadcastInDim_apply ![1] P.one v _ _ fun a => ?_
  match a with
  | ⟨0, _⟩ =>
    show c.val = if n = 1 then 0 else c.val
    split_ifs with h
    · have := c.isLt; omega
    · rfl

/-- A vector as a column, the two ways. -/
theorem column_of_flat (u : (Flat 256).Idx → α) (i : Fin 256) : shapeCast Col u shapeCasts_S256_S256x1 (ix2 i 0) = u (ix1 i) :=
  shapeCast_apply u _ _ _ (by
    refine (Shape.rowMajor_val_one (d := ![256]) (ix1 i)).trans ((Shape.rowMajor_val_two (d := ![256, 1]) (ix2 i 0)).trans ?_).symm
    show i.val * 1 + 0 = i.val
    omega)

theorem plainColumn_of_flat (u : (Flat 256).Idx → α) (i : Fin 256) : broadcastInDim Col ![0] flat_col u (ix2 i 0) = u (ix1 i) :=
  broadcastInDim_apply ![0] flat_col u _ _ fun a => by
    match a with
    | ⟨0, _⟩ => rfl

theorem eq_col (j : Col.Idx) : j = ix2 (j 0) 0 := by
  funext a
  match a with
  | ⟨0, _⟩ => rfl
  | ⟨1, _⟩ => exact Fin.ext (Nat.lt_one_iff.mp (idx2_lt1 (n0 := 256) (n1 := 1) j))

theorem column_of_flat_eq (u : (Flat 256).Idx → α) : broadcastInDim Col ![0] flat_col u = shapeCast Col u shapeCasts_S256_S256x1 := by
  funext j
  rw [eq_col j]
  exact (plainColumn_of_flat u (j 0)).trans (column_of_flat u (j 0)).symm

/-- The entry of a row at a position. -/
theorem lift_eq (W : Width n) (i : Fin 256) (c : Fin n) : W.red.lift (ix1 i) c = (ix2 i c : (Mat n).Idx) := by
  funext a
  match a with
  | ⟨0, _⟩ => rfl
  | ⟨1, _⟩ => rfl

/-! ### Reductions of a row -/

/-- The sum of a row. -/
theorem rowSum_apply (W : Width n) (h : FVec Ideal (Mat n) .f32) (i : Fin 256) :
    rowSum W h (ix2 i 0) = ∑ c : Fin n, h (ix2 i c) := by
  refine (column_of_flat _ i).trans ((Ideal.multiReduction_add_single h _ W.red (.inl rfl) rfl (ix1 i)).trans ?_)
  exact Finset.sum_congr rfl fun c _ => congrArg h (lift_eq W i c)

/-- The least entry of a row. -/
theorem rowMin_apply (W : Width n) (h : FVec Ideal (Mat n) .f32) (i : Fin 256) :
    rowMin W h (ix2 i 0)
      = (Finset.univ : Finset (Fin n)).fold (FloatOps.minimumf (F := Ideal) (φ := .f32)) (Ideal.ofBits .f32 0x7F800000#32)
          (fun c => h (ix2 i c)) := by
  refine (column_of_flat _ i).trans ((multiReduction_minimumf_eq_fold h _ W.red (.inl rfl) rfl (ix1 i)).trans ?_)
  refine (W.red.fold_filter_drop_single _ _ h (ix1 i)).trans ?_
  rw [show h ∘ W.red.lift (ix1 i) = fun c => h (ix2 i c) from funext fun c => congrArg h (lift_eq W i c)]
  rfl

/-- The greatest entry of a row. -/
theorem rowMax_apply (W : Width n) (h : FVec Ideal (Mat n) .f32) (i : Fin 256) :
    rowMax W h (ix2 i 0)
      = (Finset.univ : Finset (Fin n)).fold (FloatOps.maximumf (F := Ideal) (φ := .f32)) (Ideal.ofBits .f32 0xFF800000#32)
          (fun c => h (ix2 i c)) := by
  refine (column_of_flat _ i).trans ((multiReduction_maximumf_eq_fold h _ W.red (.inl rfl) rfl (ix1 i)).trans ?_)
  refine (W.red.fold_filter_drop_single _ _ h (ix1 i)).trans ?_
  rw [show h ∘ W.red.lift (ix1 i) = fun c => h (ix2 i c) from funext fun c => congrArg h (lift_eq W i c)]
  rfl

end Cert.Fused

end
-- ==== Proof.Words.lean ====
module

public import Idealize.ShloMosaic.PureOps.Ideal.Laws
public import Mathlib.Tactic.NormNum

/-!
# The numbers the literals denote
-/

@[expose] public section

noncomputable section

namespace Cert.Fused

open Idealize.ShloMosaic

theorem word_one : Ideal.ofBits .f32 0x3F800000#32 = ((1 : ℝ) : EReal) := by
  simp [Ideal.ofBits, Ideal.ieee] <;> norm_num <;> (rw [← EReal.coe_mul]; norm_num)

theorem word_half : Ideal.ofBits .f32 0x3F000000#32 = ((2⁻¹ : ℝ) : EReal) := by
  simp [Ideal.ofBits, Ideal.ieee] <;> norm_num <;> (rw [← EReal.coe_mul]; norm_num)

theorem word_top : Ideal.ofBits .f32 0x7F800000#32 = ⊤ := by simp [Ideal.ofBits, Ideal.ieee]

theorem word_bot : Ideal.ofBits .f32 0xFF800000#32 = ⊥ := by simp [Ideal.ofBits, Ideal.ieee]

theorem word_width : Ideal.ofBits .f32 0x35800000#32 = ((((2 : ℝ) ^ 20)⁻¹ : ℝ) : EReal) := by
  simp [Ideal.ofBits, Ideal.ieee] <;> norm_num <;> (rw [← EReal.coe_mul]; norm_num)

/-- The factor that raises the greatest entry is positive. -/
theorem word_raise : ∃ c : ℝ, 0 < c ∧ Ideal.ofBits .f32 0x358637BD#32 = (c : EReal) := by
  refine ⟨_, ?_, by simp [Ideal.ofBits, Ideal.ieee]; rfl⟩
  positivity

theorem word_800 : Ideal.ofBits .f32 0x44480000#32 = ((800 : ℝ) : EReal) := by
  simp [Ideal.ofBits, Ideal.ieee] <;> norm_num <;> (rw [← EReal.coe_mul]; norm_num)
theorem word_571 : Ideal.ofBits .f32 0x440EC000#32 = ((571 : ℝ) : EReal) := by
  simp [Ideal.ofBits, Ideal.ieee] <;> norm_num <;> (rw [← EReal.coe_mul]; norm_num)
theorem word_500 : Ideal.ofBits .f32 0x43FA0000#32 = ((500 : ℝ) : EReal) := by
  simp [Ideal.ofBits, Ideal.ieee] <;> norm_num <;> (rw [← EReal.coe_mul]; norm_num)
theorem word_250 : Ideal.ofBits .f32 0x437A0000#32 = ((250 : ℝ) : EReal) := by
  simp [Ideal.ofBits, Ideal.ieee] <;> norm_num <;> (rw [← EReal.coe_mul]; norm_num)

theorem word_280 : Ideal.ofBits .f32 0x438C0000#32 = ((280 : ℝ) : EReal) := by
  simp [Ideal.ofBits, Ideal.ieee] <;> norm_num <;> (rw [← EReal.coe_mul]; norm_num)
theorem word_199 : Ideal.ofBits .f32 0x43470000#32 = ((199 : ℝ) : EReal) := by
  simp [Ideal.ofBits, Ideal.ieee] <;> norm_num <;> (rw [← EReal.coe_mul]; norm_num)
theorem word_175 : Ideal.ofBits .f32 0x432F0000#32 = ((175 : ℝ) : EReal) := by
  simp [Ideal.ofBits, Ideal.ieee] <;> norm_num <;> (rw [← EReal.coe_mul]; norm_num)
theorem word_87 : Ideal.ofBits .f32 0x42AE0000#32 = ((87 : ℝ) : EReal) := by
  simp [Ideal.ofBits, Ideal.ieee] <;> norm_num <;> (rw [← EReal.coe_mul]; norm_num)

end Cert.Fused

end
-- ==== Proof.PlainSteps.lean ====
module

public import proofs.«01_k».proof.Proof.Rows
public import proofs.«01_k».proof.Proof.Words

/-!
# The plain steps are the kernel's steps

Over the extended reals the plain sum, normalisation and product are the kernel's.
-/

@[expose] public section

noncomputable section

namespace Cert.Fused

open Idealize.ShloMosaic Idealize.ShloMosaic.TcCoe Idealize.ShloMosaic.ValueIdx Cert.KernelIdeal Cert.KernelIdeal.Gen

variable {n p q : ℕ}

theorem across_eq (P : PlainWidth n) (W : Width n) (v : FVec Ideal Col .f32) : across P v = broadcastTo (Mat n) v W.col :=
  acrossOf_eq P W v

theorem plainLit_eq (w : BitVec 32) : (plainLit w : FVec Ideal Col .f32) = lit w := rfl

theorem plainSum_eq (P : PlainWidth n) (W : Width n) (h : FVec Ideal (Mat n) .f32) : plainSum P h = rowSum W h :=
  (column_of_flat_eq _).trans (congrArg (fun u => shapeCast Col u shapeCasts_S256_S256x1)
    (multiReduction_add_eq_hostReduceAdd h 0x00000000#32 W.red (.inl rfl) rfl (constant Point .f32 0x00000000#32) P.red point_pos
      Ideal.ofBits_zero_f32).symm)

theorem plainMin_eq (P : PlainWidth n) (W : Width n) (h : FVec Ideal (Mat n) .f32) : plainMin P h = rowMin W h :=
  (column_of_flat_eq _).trans (congrArg (fun u => shapeCast Col u shapeCasts_S256_S256x1)
    (hostReduce_minimumf_eq_multiReduction h 0x7F800000#32 P.red point_pos W.red (.inl rfl) rfl))

theorem plainMax_eq (P : PlainWidth n) (W : Width n) (h : FVec Ideal (Mat n) .f32) : plainMax P h = rowMax W h :=
  (column_of_flat_eq _).trans (congrArg (fun u => shapeCast Col u shapeCasts_S256_S256x1)
    (hostReduce_maximumf_eq_multiReduction h 0xFF800000#32 P.red point_pos W.red (.inl rfl) rfl))

/-- A one-row matrix holds a vector. -/
def Holds (r : FVec Ideal (Row n) .f32) (v : FVec Ideal (Flat n) .f32) : Prop := ∀ c : Fin n, r (ix2 0 c) = v (ix1 c)

theorem plainSpread_eq (P : PlainWidth n) (W : Width n) {r : FVec Ideal (Row n) .f32} {v : FVec Ideal (Flat n) .f32} (H : Holds r v) :
    plainSpread P v = spread W r := by
  funext j
  rw [eq_ix2 j]
  refine (plainRowOf_apply P v (j 0) (j 1)).trans ((H _).symm.trans ?_)
  unfold spread
  rw [shapeCast_self]
  exact (rowOf_apply W r (j 0) (j 1)).symm

theorem plainCentred_eq (P : PlainWidth n) (W : Width n) (wn : BitVec 32) (h : FVec Ideal (Mat n) .f32) :
    plainCentred P wn h = centred W wn h := by
  unfold plainCentred centred plainMean mean
  rw [across_eq P W, plainSum_eq P W]
  rfl

/-- The zero correction takes nothing off the width. -/
theorem freedom_eq (wn : BitVec 32) (j : Point.Idx) : freedom (F := Ideal) wn j = Ideal.ofBits .f32 wn := by
  show Ideal.ofBits .f32 wn - (Scalar.sitofp .f32 0#32 : Ideal .f32) = _
  rw [sitofp_zero]
  exact sub_zero _

/-- The variance's guard holds at a positive width. -/
theorem plainVar_eq (P : PlainWidth n) (W : Width n) (wn : BitVec 32) (hn : 0 < Ideal.ofBits .f32 wn) (h : FVec Ideal (Mat n) .f32) :
    plainVar P wn h = divf (rowSum W (mulf (centred W wn h) (centred W wn h))) (lit wn) := by
  have hf : freedom (F := Ideal) wn = constant Point .f32 wn := funext fun j => freedom_eq wn j
  unfold plainVar
  rw [hf, plainSum_eq P W, plainCentred_eq P W]
  funext j
  have hb : FloatOps.cmpf .ogt (Ideal.ofBits .f32 wn : Ideal .f32) (Ideal.ofBits .f32 0x00000000#32) = 1#1 := by
    rw [Ideal.cmpf_def, Ideal.ofBits_zero_f32]
    simp [Ideal.cmp, hn]
  show Scalar.select (FloatOps.cmpf .ogt (Ideal.ofBits .f32 wn : Ideal .f32) (Ideal.ofBits .f32 0x00000000#32)) _ _ = _
  rw [hb]
  rfl

theorem plainNormalise_eq (P : PlainWidth n) (W : Width n) (wn : BitVec 32) (hn : 0 < Ideal.ofBits .f32 wn) (h : FVec Ideal (Mat n) .f32)
    {rg rb : FVec Ideal (Row n) .f32} {g b : FVec Ideal (Flat n) .f32} (Hg : Holds rg g) (Hb : Holds rb b) :
    plainNormalise P wn h g b = normalise W wn h rg rb := by
  unfold plainNormalise normalise
  rw [plainVar_eq P W wn hn, plainCentred_eq P W, across_eq P W, plainSpread_eq P W Hg, plainSpread_eq P W Hb]
  rfl

/-! ### Products -/

/-- The dimension numbers of a product of a `256 × p` matrix with the rows of a `q × p` one. -/
def pairs (wf : DotDims.WF (Mat p) ⟨2, ![q, p]⟩ (Mat q) [1] [1] [0] [0] [] []) : DotDims (Mat p) ⟨2, ![q, p]⟩ (Mat q) where
  lhsContracting := [1]
  rhsContracting := [1]
  lhsNonContracting := [0]
  rhsNonContracting := [0]
  lhsBatch := []
  rhsBatch := []
  wf := wf

/-- A product read at an entry. -/
theorem pairs_apply (wf : DotDims.WF (Mat p) ⟨2, ![q, p]⟩ (Mat q) [1] [1] [0] [0] [] []) (x : FVec Ideal (Mat p) .bf16)
    (w : FVec Ideal ⟨2, ![q, p]⟩ .bf16) (i : Fin 256) (c : Fin q) :
    matmul (pairs wf) none x w (constant (Mat q) .f32 0x00000000#32) (ix2 i c) = ∑ a : Fin p, x (ix2 i a) * w (ix2 c a) := by
  refine (Ideal.matmul_constant_zero_apply (pairs wf) none x w (ix2 i c)).trans ?_
  rw [← Equiv.sum_comp (contrEquiv1 (pairs wf) p rfl rfl).symm]
  refine Finset.sum_congr rfl fun a _ => ?_
  have h1 : (pairs wf).lhsIdx (ix2 i c) ((contrEquiv1 (pairs wf) p rfl rfl).symm a) = ix2 i a := by
    funext b
    match b with
    | ⟨0, _⟩ => rfl
    | ⟨1, _⟩ => rfl
  have h2 : (pairs wf).rhsIdx (ix2 i c) ((contrEquiv1 (pairs wf) p rfl rfl).symm a) = ix2 c a := by
    funext b
    match b with
    | ⟨0, _⟩ => rfl
    | ⟨1, _⟩ => rfl
  rw [h1, h2]

theorem times_apply (D : Product p q) (x : FVec Ideal (Mat p) .f32) (w : FVec Ideal ⟨2, ![q, p]⟩ .f32) (i : Fin 256) (c : Fin q) :
    Host.dotGeneral (times D.dot) none x (transpose ⟨2, ![p, q]⟩ [1, 0] w D.turn) (ix2 i c) = ∑ a : Fin p, x (ix2 i a) * w (ix2 c a) := by
  refine (Ideal.dotGeneral_apply (times D.dot) none _ x _ (ix2 i c)).trans ?_
  rw [← Equiv.sum_comp (contrEquiv1 (times D.dot) p rfl rfl).symm]
  refine Finset.sum_congr rfl fun a _ => ?_
  have h1 : (times D.dot).lhsIdx (ix2 i c) ((contrEquiv1 (times D.dot) p rfl rfl).symm a) = ix2 i a := by
    funext b
    match b with
    | ⟨0, _⟩ => rfl
    | ⟨1, _⟩ => rfl
  have h2 : (times D.dot).rhsIdx (ix2 i c) ((contrEquiv1 (times D.dot) p rfl rfl).symm a) = ix2 a c := by
    funext b
    match b with
    | ⟨0, _⟩ => rfl
    | ⟨1, _⟩ => rfl
  rw [h1, h2]
  refine congrArg (x (ix2 i a) * ·) (transpose_apply [1, 0] w D.turn (ix2 a c) (ix2 c a) fun b => ?_)
  match b with
  | ⟨0, _⟩ => rfl
  | ⟨1, _⟩ => rfl

/-- The plain product of an entry, with its bias. -/
theorem plainDense_apply (P : PlainWidth q) (D : Product p q) (x : FVec Ideal (Mat p) .f32) (w : FVec Ideal ⟨2, ![q, p]⟩ .f32)
    (b : FVec Ideal (Flat q) .f32) (i : Fin 256) (c : Fin q) :
    plainDense P D x w b (ix2 i c) = (∑ a : Fin p, x (ix2 i a) * w (ix2 c a)) + b (ix1 c) := by
  show (Host.dotGeneral (times D.dot) none x (transpose ⟨2, ![p, q]⟩ [1, 0] w D.turn) (ix2 i c) : EReal) + plainSpread P b (ix2 i c) = _
  rw [times_apply D x w i c]
  exact congrArg (_ + ·) (plainRowOf_apply P b i c)

/-- The kernel's product with a bias is the plain one. -/
theorem plainDense_eq (P : PlainWidth q) (W : Width q) (D : Product p q) (wf : DotDims.WF (Mat p) ⟨2, ![q, p]⟩ (Mat q) [1] [1] [0] [0] [] [])
    (x : FVec Ideal (Mat p) .f32) (w : FVec Ideal ⟨2, ![q, p]⟩ .f32) {r : FVec Ideal (Row q) .f32} {b : FVec Ideal (Flat q) .f32}
    (H : Holds r b) : plainDense P D x w b = dense W (pairs wf) x w r := by
  unfold plainDense dense
  rw [plainSpread_eq P W H]
  refine congrArg (fun u => addf u (spread (F := Ideal) W r)) (funext fun j => ?_)
  rw [eq_ix2 j]
  exact (times_apply D x w (j 0) (j 1)).trans (pairs_apply wf _ _ (j 0) (j 1)).symm

end Cert.Fused

end
-- ==== Proof.Operands.lean ====
module

public import proofs.«01_k».proof.Proof.Region
public import proofs.«01_k».proof.Proof.PlainSteps
public import Idealize.ShloMosaic.Lib.Claim
public import Idealize.ShloMosaic.Lib.Pipeline.ValueKit

/-!
# The operands of the last step

Apart from the activations and the first weights, each operand's block is its whole array: a weight matrix as it was
launched, or a vector the program laid out as one row.
-/

@[expose] public section

set_option maxRecDepth 16384

noncomputable section

namespace Cert.Fused

open Cert.KernelIdeal Cert.KernelIdeal.Gen
open Idealize.ShloMosaic Idealize.ShloMosaic.TcCoe Idealize.ShloMosaic.Tactic

variable (m : (ℓ : Loc nD τ sig) → Buf (Elt Ideal) ℓ)

/-- A vector laid out as one row holds the vector. -/
theorem holds_laid {n : ℕ} (v : FVec Ideal (Flat n) .f32) (h : (Flat n).ShapeCasts (Row n)) : Holds (shapeCast (Row n) v h) v := fun j =>
  shapeCast_apply v h (ValueIdx.ix2 0 j) (ValueIdx.ix1 j) (by
    refine (Shape.rowMajor_val_one (d := ![n]) (ValueIdx.ix1 j)).trans ((Shape.rowMajor_val_two (d := ![1, n]) (ValueIdx.ix2 0 j)).trans ?_).symm
    show 0 * n + j.val = j.val
    omega)

/-! ### The weights of the layers after the first -/

theorem weights5 (c : Dev nD) (t : Fin cfg0.N) : iblk m c 5 t = m ((c : Thread nD τ).loc main_arg5) := by
  have h : ∀ t : Fin grid0.N, win0_5.index t = ![0, 0] := by decide +kernel
  blk_ext! [iblk, V, h t]

theorem weights9 (c : Dev nD) (t : Fin cfg0.N) : iblk m c 9 t = m ((c : Thread nD τ).loc main_arg9) := by
  have h : ∀ t : Fin grid0.N, win0_9.index t = ![0, 0] := by decide +kernel
  blk_ext! [iblk, V, h t]

theorem weights13 (c : Dev nD) (t : Fin cfg0.N) : iblk m c 13 t = m ((c : Thread nD τ).loc main_arg13) := by
  have h : ∀ t : Fin grid0.N, win0_13.index t = ![0, 0] := by decide +kernel
  blk_ext! [iblk, V, h t]

theorem weights17 (c : Dev nD) (t : Fin cfg0.N) : iblk m c 17 t = m ((c : Thread nD τ).loc main_arg17) := by
  have h : ∀ t : Fin grid0.N, win0_17.index t = ![0, 0] := by decide +kernel
  blk_ext! [iblk, V, h t]

/-! ### The biases, scales and shifts -/

theorem row2 (c : Dev nD) (t : Fin cfg0.N) : Holds (n := 800) (iblk m c 2 t) (m ((c : Thread nD τ).loc main_arg2)) := by
  have h : ∀ t : Fin grid0.N, win0_2.index t = ![0, 0] := by decide +kernel
  have e : iblk m c 2 t = V m c main_v0 := by blk_ext! [iblk, V, h t]
  rw [e]
  entry_read
  exact holds_laid _ shapeCasts_S800_S1x800

theorem row3 (c : Dev nD) (t : Fin cfg0.N) : Holds (n := 800) (iblk m c 3 t) (m ((c : Thread nD τ).loc main_arg3)) := by
  have h : ∀ t : Fin grid0.N, win0_3.index t = ![0, 0] := by decide +kernel
  have e : iblk m c 3 t = V m c main_v1 := by blk_ext! [iblk, V, h t]
  rw [e]
  entry_read
  exact holds_laid _ shapeCasts_S800_S1x800

theorem row4 (c : Dev nD) (t : Fin cfg0.N) : Holds (n := 800) (iblk m c 4 t) (m ((c : Thread nD τ).loc main_arg4)) := by
  have h : ∀ t : Fin grid0.N, win0_4.index t = ![0, 0] := by decide +kernel
  have e : iblk m c 4 t = V m c main_v2 := by blk_ext! [iblk, V, h t]
  rw [e]
  entry_read
  exact holds_laid _ shapeCasts_S800_S1x800

theorem row6 (c : Dev nD) (t : Fin cfg0.N) : Holds (n := 571) (iblk m c 6 t) (m ((c : Thread nD τ).loc main_arg6)) := by
  have h : ∀ t : Fin grid0.N, win0_6.index t = ![0, 0] := by decide +kernel
  have e : iblk m c 6 t = V m c main_v3 := by blk_ext! [iblk, V, h t]
  rw [e]
  entry_read
  exact holds_laid _ shapeCasts_S571_S1x571

theorem row7 (c : Dev nD) (t : Fin cfg0.N) : Holds (n := 571) (iblk m c 7 t) (m ((c : Thread nD τ).loc main_arg7)) := by
  have h : ∀ t : Fin grid0.N, win0_7.index t = ![0, 0] := by decide +kernel
  have e : iblk m c 7 t = V m c main_v4 := by blk_ext! [iblk, V, h t]
  rw [e]
  entry_read
  exact holds_laid _ shapeCasts_S571_S1x571

theorem row8 (c : Dev nD) (t : Fin cfg0.N) : Holds (n := 571) (iblk m c 8 t) (m ((c : Thread nD τ).loc main_arg8)) := by
  have h : ∀ t : Fin grid0.N, win0_8.index t = ![0, 0] := by decide +kernel
  have e : iblk m c 8 t = V m c main_v5 := by blk_ext! [iblk, V, h t]
  rw [e]
  entry_read
  exact holds_laid _ shapeCasts_S571_S1x571

theorem row10 (c : Dev nD) (t : Fin cfg0.N) : Holds (n := 500) (iblk m c 10 t) (m ((c : Thread nD τ).loc main_arg10)) := by
  have h : ∀ t : Fin grid0.N, win0_10.index t = ![0, 0] := by decide +kernel
  have e : iblk m c 10 t = V m c main_v6 := by blk_ext! [iblk, V, h t]
  rw [e]
  entry_read
  exact holds_laid _ shapeCasts_S500_S1x500

theorem row11 (c : Dev nD) (t : Fin cfg0.N) : Holds (n := 500) (iblk m c 11 t) (m ((c : Thread nD τ).loc main_arg11)) := by
  have h : ∀ t : Fin grid0.N, win0_11.index t = ![0, 0] := by decide +kernel
  have e : iblk m c 11 t = V m c main_v7 := by blk_ext! [iblk, V, h t]
  rw [e]
  entry_read
  exact holds_laid _ shapeCasts_S500_S1x500

theorem row12 (c : Dev nD) (t : Fin cfg0.N) : Holds (n := 500) (iblk m c 12 t) (m ((c : Thread nD τ).loc main_arg12)) := by
  have h : ∀ t : Fin grid0.N, win0_12.index t = ![0, 0] := by decide +kernel
  have e : iblk m c 12 t = V m c main_v8 := by blk_ext! [iblk, V, h t]
  rw [e]
  entry_read
  exact holds_laid _ shapeCasts_S500_S1x500

theorem row14 (c : Dev nD) (t : Fin cfg0.N) : Holds (n := 250) (iblk m c 14 t) (m ((c : Thread nD τ).loc main_arg14)) := by
  have h : ∀ t : Fin grid0.N, win0_14.index t = ![0, 0] := by decide +kernel
  have e : iblk m c 14 t = V m c main_v9 := by blk_ext! [iblk, V, h t]
  rw [e]
  entry_read
  exact holds_laid _ shapeCasts_S250_S1x250

theorem row15 (c : Dev nD) (t : Fin cfg0.N) : Holds (n := 250) (iblk m c 15 t) (m ((c : Thread nD τ).loc main_arg15)) := by
  have h : ∀ t : Fin grid0.N, win0_15.index t = ![0, 0] := by decide +kernel
  have e : iblk m c 15 t = V m c main_v10 := by blk_ext! [iblk, V, h t]
  rw [e]
  entry_read
  exact holds_laid _ shapeCasts_S250_S1x250

theorem row16 (c : Dev nD) (t : Fin cfg0.N) : Holds (n := 250) (iblk m c 16 t) (m ((c : Thread nD τ).loc main_arg16)) := by
  have h : ∀ t : Fin grid0.N, win0_16.index t = ![0, 0] := by decide +kernel
  have e : iblk m c 16 t = V m c main_v11 := by blk_ext! [iblk, V, h t]
  rw [e]
  entry_read
  exact holds_laid _ shapeCasts_S250_S1x250

theorem row18 (c : Dev nD) (t : Fin cfg0.N) : Holds (n := 250) (iblk m c 18 t) (m ((c : Thread nD τ).loc main_arg18)) := by
  have h : ∀ t : Fin grid0.N, win0_18.index t = ![0, 0] := by decide +kernel
  have e : iblk m c 18 t = V m c main_v12 := by blk_ext! [iblk, V, h t]
  rw [e]
  entry_read
  exact holds_laid _ shapeCasts_S250_S1x250

end Cert.Fused

end
-- ==== Proof.FirstLayer.lean ====
module

public import proofs.«01_k».proof.Proof.Operands

/-!
# The first product

The kernel adds the first product up in 25 blocks of 4096 columns, the last of them cut at column 100000. Over the extended
reals the sum of the blocks is the product.
-/

@[expose] public section

set_option maxRecDepth 16384

noncomputable section

namespace Cert.Fused

open Cert.KernelIdeal Cert.KernelIdeal.Gen
open Idealize.ShloMosaic Idealize.ShloMosaic.TcCoe Idealize.ShloMosaic.Tactic

/-! ### The body's payloads at an entry -/

theorem pairs4096 : DotDims.WF (Mat 4096) ⟨2, ![800, 4096]⟩ (Mat 800) [1] [1] [0] [0] [] [] := by decide

theorem blockProduct_apply (x : FVec Ideal S256x4096 .bf16) (w : FVec Ideal S800x4096 .bf16) (i : Fin 256) (c : Fin 800) :
    matmul dot_S256x4096_S800x4096_S256x800_1_1_0_0_n_n none x w (constant S256x800 .f32 0x00000000#32) (ValueIdx.ix2 i c)
      = ∑ a : Fin 4096, x (ValueIdx.ix2 i a) * w (ValueIdx.ix2 c a) :=
  pairs_apply pairs4096 x w i c

/-- The cleared accumulator. -/
theorem cleared_apply (j : S256x800.Idx) : k0_pay1 (F := Ideal) j = 0 := by
  unfold k0_pay1
  rw [shapeCast_self]
  exact Ideal.ofBits_zero_f32

/-- A block product added to the accumulator. -/
theorem added_apply (acc : Vec Ideal S256x800 .f32) (x : Vec Ideal S256x4096 .f32) (w : Vec Ideal S800x4096 .f32) (i : Fin 256) (c : Fin 800) :
    k0_pay2 (F := Ideal) acc x w (ValueIdx.ix2 i c)
      = (acc (ValueIdx.ix2 i c) + ∑ a : Fin 4096, x (ValueIdx.ix2 i a) * w (ValueIdx.ix2 c a) : EReal) := by
  unfold k0_pay2
  rw [shapeCast_self]
  exact congrArg (acc (ValueIdx.ix2 i c) + · : EReal → EReal) (blockProduct_apply _ _ i c)

/-- A masked block at an entry. -/
theorem masked_apply {n : ℕ} (h : (⟨2, ![n, 4096]⟩ : Shape).Iotas .tc 32 [1]) (v : Vec Ideal ⟨2, ![n, 4096]⟩ .f32) (i : Fin n) (a : Fin 4096) :
    (select (cmpi .slt (iota .tc ⟨2, ![n, 4096]⟩ 32 [1] h) (broadcast ⟨2, ![n, 4096]⟩ 1696#32)) v
        (broadcast ⟨2, ![n, 4096]⟩ (Scalar.ofBits (F := Ideal) .f32 0x00000000#32)) (ValueIdx.ix2 i a) : EReal)
      = if a.val < 1696 then v (ValueIdx.ix2 i a) else 0 := by
  have hm := mask_iff (1 : Fin (⟨2, ![n, 4096]⟩ : Shape).rank) h (ValueIdx.ix2 i a) (le_refl 4096)
  show Scalar.select _ _ _ = _
  by_cases ha : a.val < 1696
  · rw [if_pos ha]
    exact if_pos (hm.mpr ha)
  · rw [if_neg ha]
    exact (if_neg fun e => ha (hm.mp e)).trans Ideal.ofBits_zero_f32

/-- The last block's product and the bias added to the accumulator. -/
theorem finish_apply (x : Vec Ideal S256x4096 .f32) (w : Vec Ideal S800x4096 .f32) (acc : Vec Ideal S256x800 .f32) (r : Vec Ideal S1x800 .f32)
    (i : Fin 256) (c : Fin 800) :
    k0_pay4 (F := Ideal) x w acc r (ValueIdx.ix2 i c)
      = ((acc (ValueIdx.ix2 i c) + ∑ a : Fin 4096, (if a.val < 1696 then x (ValueIdx.ix2 i a) else 0) * (if a.val < 1696 then w (ValueIdx.ix2 c a) else 0))
          + r (ValueIdx.ix2 0 c) : EReal) := by
  have hr : (broadcastTo S256x800 (shapeCast S1x800 r shapeCasts_S1x800_S1x800) broadcasts_S1x800_S256x800 (ValueIdx.ix2 i c) : EReal)
      = r (ValueIdx.ix2 0 c) := by
    rw [shapeCast_self]
    exact rowOf_apply width800 r i c
  unfold k0_pay4
  refine congrArg₂ (· + · : EReal → EReal → EReal) (congrArg (acc (ValueIdx.ix2 i c) + · : EReal → EReal) ((blockProduct_apply _ _ i c).trans ?_)) hr
  exact Finset.sum_congr rfl fun a _ => congrArg₂ (· * · : EReal → EReal → EReal) (masked_apply _ x i a) (masked_apply _ w c a)

/-! ### The blocks at an entry -/

variable (m : (ℓ : Loc nD τ sig) → Buf (Elt Ideal) ℓ)

/-- The activations and the first weights as launched. -/
abbrev inputs (c : Dev nD) : FVec Ideal (Mat 100000) .f32 := m ((c : Thread nD τ).loc main_arg0)
abbrev weights (c : Dev nD) : FVec Ideal ⟨2, ![800, 100000]⟩ .f32 := m ((c : Thread nD τ).loc main_arg1)

/-- The columns a copy of the activations moves, -/
theorem xMoves : ∀ t : Fin cfg0.N, (cfg0.win 0).xsize (grid0.coords t) 0 = 256 ∧ (cfg0.win 0).xsize (grid0.coords t) 1 = min 4096 (100000 - t.val * 4096) := by
  decide +kernel
/-- and one of the weights. -/
theorem wMoves : ∀ t : Fin cfg0.N, (cfg0.win 1).xsize (grid0.coords t) 0 = 800 ∧ (cfg0.win 1).xsize (grid0.coords t) 1 = min 4096 (100000 - t.val * 4096) := by
  decide +kernel

theorem xIndex : ∀ t : Fin grid0.N, win0_0.index t = ![0, t.val] := by decide +kernel
theorem wIndex : ∀ t : Fin grid0.N, win0_1.index t = ![0, t.val] := by decide +kernel

/-- Column `a` of block `t` of the activations is column `4096 t + a` of the array, -/
theorem xAt_apply (c : Dev nD) (t : Fin cfg0.N) (i : Fin 256) (a : Fin 4096) (h : t.val * 4096 + a.val < 100000) :
    xAt m c t (ValueIdx.ix2 i a) = inputs m c (ValueIdx.ix2 i ⟨t.val * 4096 + a.val, h⟩) := by
  have hm : (cfg0.win 0).moved (grid0.coords t) (ValueIdx.ix2 i a) = true :=
    ((cfg0.win 0).moved_iff _ _).mpr fun b => by
      match b with
      | ⟨0, _⟩ => exact lt_of_lt_of_eq i.isLt (xMoves t).1.symm
      | ⟨1, _⟩ => exact lt_of_lt_of_eq (lt_min a.isLt (show a.val < _ by omega)) (xMoves t).2.symm
  unfold xAt xOver Pipeline.Window.fill
  rw [dif_pos hm]
  blk_ext! [iblk, V, xIndex t]

/-- and so for the weights. -/
theorem wAt_apply (c : Dev nD) (t : Fin cfg0.N) (i : Fin 800) (a : Fin 4096) (h : t.val * 4096 + a.val < 100000) :
    wAt m c t (ValueIdx.ix2 i a) = weights m c (ValueIdx.ix2 i ⟨t.val * 4096 + a.val, h⟩) := by
  have hm : (cfg0.win 1).moved (grid0.coords t) (ValueIdx.ix2 i a) = true :=
    ((cfg0.win 1).moved_iff _ _).mpr fun b => by
      match b with
      | ⟨0, _⟩ => exact lt_of_lt_of_eq i.isLt (wMoves t).1.symm
      | ⟨1, _⟩ => exact lt_of_lt_of_eq (lt_min a.isLt (show a.val < _ by omega)) (wMoves t).2.symm
  unfold wAt wOver Pipeline.Window.fill
  rw [dif_pos hm]
  blk_ext! [iblk, V, wIndex t]

/-! ### The sum of the blocks -/

/-- Term `a` of entry `(i, c)` of the product, zero past the last column. -/
def term (d : Dev nD) (i : Fin 256) (c : Fin 800) (a : ℕ) : EReal :=
  if h : a < 100000 then inputs m d (ValueIdx.ix2 i ⟨a, h⟩) * weights m d (ValueIdx.ix2 c ⟨a, h⟩) else 0

/-- A block that lies inside the arrays adds its terms. -/
theorem block_sum (d : Dev nD) (t : Fin cfg0.N) (h : t.val < 24) (i : Fin 256) (c : Fin 800) :
    (∑ a : Fin 4096, xAt m d t (ValueIdx.ix2 i a) * wAt m d t (ValueIdx.ix2 c a) : EReal)
      = ∑ a ∈ Finset.range 4096, term m d i c (t.val * 4096 + a) := by
  rw [Finset.sum_range]
  refine Finset.sum_congr rfl fun a _ => ?_
  have ha : t.val * 4096 + a.val < 100000 := by have := a.isLt; omega
  rw [xAt_apply m d t i a ha, wAt_apply m d t c a ha, term, dif_pos ha]

/-- The last block, masked, adds its terms. -/
theorem lastBlock_sum (d : Dev nD) (t : Fin cfg0.N) (h : t.val = 24) (i : Fin 256) (c : Fin 800) :
    (∑ a : Fin 4096, (if a.val < 1696 then xAt m d t (ValueIdx.ix2 i a) else 0) * (if a.val < 1696 then wAt m d t (ValueIdx.ix2 c a) else 0) : EReal)
      = ∑ a ∈ Finset.range 4096, term m d i c (24 * 4096 + a) := by
  rw [Finset.sum_range]
  refine Finset.sum_congr rfl fun a _ => ?_
  by_cases hc : a.val < 1696
  · have ha : t.val * 4096 + a.val < 100000 := by omega
    rw [if_pos hc, if_pos hc, xAt_apply m d t i a ha, wAt_apply m d t c a ha, ← h, term, dif_pos ha]
  · rw [if_neg hc, if_neg hc, term, dif_neg (by omega), zero_mul]

/-- After point `n` the accumulator holds the first `4096 (n + 1)` terms. -/
theorem accAt_sum (d : Dev nD) (i : Fin 256) (c : Fin 800) (n : ℕ) (hn : n < 24) :
    (accAt m d n (ValueIdx.ix2 i c) : EReal) = ∑ a ∈ Finset.range ((n + 1) * 4096), term m d i c a := by
  have point : ∀ k, k < 24 → k < cfg0.N := fun k hk => lt_of_lt_of_eq (Nat.lt_trans hk (by decide)) N_0.symm
  induction n with
  | zero =>
    rw [show accAt m d 0 = _ from accAt_first m d ⟨0, point 0 hn⟩ rfl, added_apply, cleared_apply, block_sum m d _ hn i c, zero_add]
    simp only [Nat.zero_mul, Nat.zero_add, Nat.one_mul]
  | succ n ih =>
    rw [show accAt m d (n + 1) = _ from accAt_middle m d ⟨n + 1, point (n + 1) hn⟩ (Nat.succ_ne_zero n) hn, added_apply,
      block_sum m d _ hn i c]
    show (accAt m d n (ValueIdx.ix2 i c) : EReal) + _ = _
    rw [ih (by omega), show (n + 1 + 1) * 4096 = (n + 1) * 4096 + 4096 by ring, Finset.sum_range_add]

/-- All the terms are the product's. -/
theorem term_sum (d : Dev nD) (i : Fin 256) (c : Fin 800) :
    ∑ a ∈ Finset.range (24 * 4096), term m d i c a + ∑ a ∈ Finset.range 4096, term m d i c (24 * 4096 + a)
      = ∑ a : Fin 100000, inputs m d (ValueIdx.ix2 i a) * weights m d (ValueIdx.ix2 c a) := by
  rw [← Finset.sum_range_add, show 24 * 4096 + 4096 = 100000 + 2400 by norm_num, Finset.sum_range_add,
    Finset.sum_eq_zero (s := Finset.range 2400) (fun a _ => by rw [term, dif_neg (by omega)]), add_zero, Finset.sum_range]
  exact Finset.sum_congr rfl fun a _ => by rw [term, dif_pos a.isLt]

/-- What the last step starts from is the plain first product with its bias. -/
theorem finished_eq (d : Dev nD) (t : Fin cfg0.N) (h : t.val = 24) :
    finished m d t = plainDense plain800 product800 (inputs m d) (weights m d) (m ((d : Thread nD τ).loc main_arg2)) := by
  funext j
  obtain ⟨i, c, rfl⟩ : ∃ (i : Fin 256) (c : Fin 800), j = ValueIdx.ix2 i c := ⟨j 0, j 1, ValueIdx.eq_ix2 j⟩
  refine Eq.trans ?_ (plainDense_apply plain800 product800 (inputs m d) (weights m d) _ i c).symm
  unfold finished
  rw [finish_apply, accAt_last m d t (by omega), show t.val - 1 = 23 by omega, accAt_sum m d i c 23 (by decide),
    lastBlock_sum m d t h i c, term_sum m d i c]
  exact congrArg (_ + · : EReal → EReal) (row2 m d t c)

end Cert.Fused

end
-- ==== Proof.Halving.lean ====
module

public import Mathlib.Data.Real.Basic
public import Mathlib.Data.Finset.Card
public import Mathlib.Data.Fintype.Card
public import Mathlib.Tactic.Linarith
public import Mathlib.Tactic.FieldSimp
public import Mathlib.Tactic.Ring

/-!
# Halving a bracket around the `k`-th largest number

A bracket whose lower end has at least `k` of the numbers above it and whose upper end has fewer keeps this through every
halving. Where the numbers below the `k`-th largest keep away from it by the final width, the numbers above the
final lower end are exactly those that are at least the `k`-th largest.
-/

@[expose] public section

noncomputable section

namespace Cert.Fused

variable {n : ℕ}

/-- How many of the numbers are at least `t`. -/
def reaching (r : Fin n → ℝ) (t : ℝ) : ℕ := (Finset.univ.filter fun i => t ≤ r i).card

/-- The middle of a bracket. -/
def centre (p : ℝ × ℝ) : ℝ := (p.1 + p.2) / 2

/-- A bracket after a number of halvings: the half that still has `k` numbers above its lower end. -/
def halved (r : Fin n → ℝ) (k : ℕ) (p : ℝ × ℝ) : ℕ → ℝ × ℝ
  | 0 => p
  | j + 1 => if k ≤ reaching r (centre (halved r k p j)) then (centre (halved r k p j), (halved r k p j).2)
      else ((halved r k p j).1, centre (halved r k p j))

theorem halved_spec (r : Fin n → ℝ) (k : ℕ) (p : ℝ × ℝ) (hlo : k ≤ reaching r p.1) (hhi : reaching r p.2 < k) (j : ℕ) :
    k ≤ reaching r (halved r k p j).1 ∧ reaching r (halved r k p j).2 < k
      ∧ ((halved r k p j).2 - (halved r k p j).1) * 2 ^ j = p.2 - p.1 := by
  induction j with
  | zero => exact ⟨hlo, hhi, by simp [halved]⟩
  | succ j ih =>
    obtain ⟨h1, h2, h3⟩ := ih
    have hw : ∀ a b : ℝ, (b - (a + b) / 2) * 2 ^ (j + 1) = (b - a) * 2 ^ j := fun a b => by ring
    have hw' : ∀ a b : ℝ, ((a + b) / 2 - a) * 2 ^ (j + 1) = (b - a) * 2 ^ j := fun a b => by ring
    unfold halved
    split
    · rename_i h
      exact ⟨h, h2, by rw [← h3]; exact hw _ _⟩
    · rename_i h
      exact ⟨h1, not_le.mp h, by rw [← h3]; exact hw' _ _⟩

/-- The number `t` is the `k`-th largest: `k` of the numbers are at least `t`, fewer are above it. -/
def IsKth (r : Fin n → ℝ) (k : ℕ) (t : ℝ) : Prop :=
  k ≤ reaching r t ∧ (Finset.univ.filter fun i => t < r i).card < k

/-- A lower end with at least `k` numbers above it is at most the `k`-th largest. -/
theorem IsKth.ge {r : Fin n → ℝ} {k : ℕ} {t lo : ℝ} (h : IsKth r k t) (hlo : k ≤ reaching r lo) : lo ≤ t := by
  by_contra hc
  have hsub : reaching r lo ≤ (Finset.univ.filter fun i => t < r i).card :=
    Finset.card_le_card fun i hi => by
      simp only [Finset.mem_filter, Finset.mem_univ, true_and] at hi ⊢
      exact lt_of_lt_of_le (not_le.mp hc) hi
  exact absurd (lt_of_le_of_lt (hlo.trans hsub) h.2) (lt_irrefl _)

/-- An upper end with fewer than `k` numbers above it is above the `k`-th largest. -/
theorem IsKth.lt {r : Fin n → ℝ} {k : ℕ} {t hi : ℝ} (h : IsKth r k t) (hhi : reaching r hi < k) : t < hi := by
  by_contra hc
  have hsub : reaching r t ≤ reaching r hi :=
    Finset.card_le_card fun i hi => by
      simp only [Finset.mem_filter, Finset.mem_univ, true_and] at hi ⊢
      exact (not_lt.mp hc).trans hi
  exact absurd (lt_of_le_of_lt (h.1.trans hsub) hhi) (lt_irrefl _)

/-- After `j` halvings the numbers above the lower end are those that are at least the `k`-th largest. -/
theorem halved_iff (r : Fin n → ℝ) (k : ℕ) (p : ℝ × ℝ) (hlo : k ≤ reaching r p.1) (hhi : reaching r p.2 < k) (j : ℕ) (t : ℝ)
    (ht : IsKth r k t) (i : Fin n) (hi : t ≤ r i ∨ r i ≤ t - (p.2 - p.1) * ((2 : ℝ) ^ j)⁻¹) : (halved r k p j).1 ≤ r i ↔ t ≤ r i := by
  obtain ⟨h1, h2, h3⟩ := halved_spec r k p hlo hhi j
  constructor
  · intro h
    rcases hi with hi | hi
    · exact hi
    · have hp : (0 : ℝ) < 2 ^ j := by positivity
      have : (p.2 - p.1) * ((2 : ℝ) ^ j)⁻¹ = (halved r k p j).2 - (halved r k p j).1 := by
        rw [← h3, mul_assoc, mul_inv_cancel₀ hp.ne', mul_one]
      have := ht.lt h2
      linarith
  · exact (ht.ge h1).trans

end Cert.Fused

end
-- ==== Proof.Ranked.lean ====
module

public import proofs.«01_k».proof.Proof.Halving
public import Idealize.ShloMosaic.Lib.SortFacts

/-!
# The `k`-th entry of a sorted row is the `k`-th largest

A row sorted by "greater comes first" has at position `k - 1` a number that at least `k` of the row's numbers reach and
fewer exceed.
-/

@[expose] public section

noncomputable section

namespace Cert.Fused

open Idealize.ShloMosaic

variable {n : ℕ}

/-- The number a descending sort puts at position `l` is the `l + 1`-th largest. -/
theorem sorted_isKth (r : Fin n → ℝ) (before : Fin n → Fin n → Bool) (hb : ∀ a b, before a b = true ↔ r b < r a) (l : Fin n) :
    IsKth r (l.val + 1) (r (sortedFrom before l)) := by
  have order : ∀ i j : Fin n, i ≤ j → r (sortedFrom before j) ≤ r (sortedFrom before i) := by
    intro i j hij
    rcases eq_or_lt_of_le hij with rfl | hlt
    · exact le_refl _
    · have h := sortedFrom_noInversion before before
        (fun a b h => by
          cases hba : before b a
          · rfl
          · exact absurd ((hb a b).mp h) (not_lt.mpr ((hb b a).mp hba).le))
        (fun _ _ h => h)
        (fun a b c hab hbc => by
          cases hac : before a c
          · rfl
          · have h1 : ¬ r b < r a := fun h => by rw [(hb a b).mpr h] at hab; cases hab
            have h2 : ¬ r c < r b := fun h => by rw [(hb b c).mpr h] at hbc; cases hbc
            exact absurd ((hb a c).mp hac) (not_lt.mpr ((not_lt.mp h1).trans (not_lt.mp h2))))
        i j hlt
      refine not_lt.mp fun hc => ?_
      rw [(hb _ _).mpr hc] at h
      cases h
  constructor
  · have himg : ((Finset.univ.filter fun i : Fin n => i ≤ l).image (sortedFrom before)).card = l.val + 1 := by
      rw [Finset.card_image_of_injective _ (sortedFrom_injective before)]
      have : (Finset.univ.filter fun i : Fin n => i ≤ l) = Finset.Iic l := by ext i; simp
      rw [this, Fin.card_Iic]
    rw [← himg]
    refine Finset.card_le_card fun i hi => ?_
    obtain ⟨a, ha, rfl⟩ := Finset.mem_image.mp hi
    simp only [Finset.mem_filter, Finset.mem_univ, true_and] at ha ⊢
    exact order a l ha
  · have himg : ((Finset.univ.filter fun i : Fin n => i < l).image (sortedFrom before)).card = l.val := by
      rw [Finset.card_image_of_injective _ (sortedFrom_injective before)]
      have : (Finset.univ.filter fun i : Fin n => i < l) = Finset.Iio l := by ext i; simp
      rw [this, Fin.card_Iio]
    refine lt_of_le_of_lt (b := l.val) ?_ (Nat.lt_succ_self _)
    conv_rhs => rw [← himg]
    refine Finset.card_le_card fun i hi => ?_
    obtain ⟨a, rfl⟩ := sortedFrom_surjective before i
    simp only [Finset.mem_filter, Finset.mem_univ, true_and] at hi
    refine Finset.mem_image.mpr ⟨a, ?_, rfl⟩
    simp only [Finset.mem_filter, Finset.mem_univ, true_and]
    exact not_le.mp fun hc => absurd (order l a hc) (not_le.mpr hi)

end Cert.Fused

end
-- ==== Proof.KeepPlain.lean ====
module

public import proofs.«01_k».proof.Proof.PlainSteps
public import proofs.«01_k».proof.Proof.Ranked
public import Idealize.ShloMosaic.Lib.ReduceAll

/-!
# Twenty halvings keep what a sort keeps

On a row of finite numbers, those below the `k`-th largest keeping away from it by the final width of the bracket, the
numbers above the bracket's lower end are those that are at least the `k`-th largest.
-/

@[expose] public section

noncomputable section

namespace Cert.Fused

open Idealize.ShloMosaic Idealize.ShloMosaic.TcCoe Idealize.ShloMosaic.ValueIdx Cert.KernelIdeal Cert.KernelIdeal.Gen

variable {n k l : ℕ}

/-! ### A row of real numbers -/

/-- The least of finitely many real numbers is one of them and below all. -/
theorem fold_min_real (hn : 0 < n) (r : Fin n → ℝ) :
    ∃ a : ℝ, (Finset.univ : Finset (Fin n)).fold (FloatOps.minimumf (F := Ideal) (φ := .f32)) (Ideal.ofBits .f32 0x7F800000#32)
        (fun c => ((r c : ℝ) : EReal)) = (a : EReal) ∧ ∀ c, a ≤ r c := by
  rw [word_top]
  have hne : (Finset.univ : Finset (Fin n)).Nonempty := ⟨⟨0, hn⟩, Finset.mem_univ _⟩
  obtain ⟨i, -, hi⟩ := Finset.exists_mem_eq_inf Finset.univ hne fun c => ((r c : ℝ) : EReal)
  refine ⟨r i, hi, fun c => ?_⟩
  rw [← EReal.coe_le_coe_iff, ← hi]
  exact Finset.inf_le (f := fun c => ((r c : ℝ) : EReal)) (Finset.mem_univ c)

/-- The greatest of finitely many real numbers is one of them and above all. -/
theorem fold_max_real (hn : 0 < n) (r : Fin n → ℝ) :
    ∃ b : ℝ, (Finset.univ : Finset (Fin n)).fold (FloatOps.maximumf (F := Ideal) (φ := .f32)) (Ideal.ofBits .f32 0xFF800000#32)
        (fun c => ((r c : ℝ) : EReal)) = (b : EReal) ∧ ∀ c, r c ≤ b := by
  rw [word_bot]
  have hne : (Finset.univ : Finset (Fin n)).Nonempty := ⟨⟨0, hn⟩, Finset.mem_univ _⟩
  obtain ⟨i, -, hi⟩ := Finset.exists_mem_eq_sup Finset.univ hne fun c => ((r c : ℝ) : EReal)
  refine ⟨r i, hi, fun c => ?_⟩
  rw [← EReal.coe_le_coe_iff, ← hi]
  exact Finset.le_sup (f := fun c => ((r c : ℝ) : EReal)) (Finset.mem_univ c)

/-- A number with absolute value below infinity is real. -/
theorem real_of_abs_lt {x : EReal} (h : max x (-x) < ⊤) : ∃ r : ℝ, x = (r : EReal) := by
  induction x using EReal.rec with
  | bot => simp at h
  | top => simp at h
  | coe r => exact ⟨r, rfl⟩

theorem abs_real (b : ℝ) : max (b : EReal) (-(b : EReal)) = ((|b| : ℝ) : EReal) := by
  rw [← EReal.coe_neg, ← EReal.coe_strictMono.monotone.map_max]
  rfl

/-- A decided bit is set exactly when the decision is true. -/
theorem bit_eq_one {b : Bool} : BitVec.ofBool b = 1#1 ↔ b = true := by cases b <;> simp

/-- A sum of real numbers is the same sum among the extended reals. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-! ### A sorted row -/

/-- An entry among the largest of a row is the row's entry that the sort puts there. -/
theorem topK_apply {α : Type} (H : (Mat n).Slices (fun _ => 0) (Mat k)) (gt : α → α → BitVec 1) (x : (Mat n).Idx → α) (i : Fin 256)
    (a : ℕ) (hk : a < k) (hn : a < n) :
    (Host.topK (Mat k) 1 gt x H).1 (ix2 i ⟨a, hk⟩) = x (ix2 i (sortedFrom (fun c d => gt (x (ix2 i c)) (x (ix2 i d)) == 1#1) ⟨a, hn⟩)) := by
  have al : ∀ c : Fin n, (ix2 i ⟨a, hn⟩ : (Mat n).Idx).along (1 : Fin 2) c = ix2 i c := by
    intro c
    funext b
    match b with
    | ⟨0, _⟩ => rfl
    | ⟨1, _⟩ => rfl
  unfold Host.topK
  dsimp only
  refine (extractStridedSlice_apply (fun _ => 0) _ H (ix2 i ⟨a, hk⟩) (ix2 i ⟨a, hn⟩) fun b => ?_).trans ?_
  · match b with
    | ⟨0, _⟩ => exact (Nat.zero_add _).symm
    | ⟨1, _⟩ => exact (Nat.zero_add _).symm
  · unfold Host.sort2
    rw [dif_pos (show 1 < (Mat n).rank from Nat.lt_succ_self 1)]
    refine (congrArg x (al _)).trans ?_
    refine congrArg (fun f => x (ix2 i (sortedFrom f ⟨a, hn⟩))) (funext fun c => funext fun d => ?_)
    exact congrArg₂ (fun u v => gt (x u) (x v) == 1#1) (al c) (al d)

/-! ### The bracket of one row -/

section Row

variable (W : Width n) (h : FVec Ideal (Mat n) .f32) (i : Fin 256) (r : Fin n → ℝ) (hr : ∀ c, h (ix2 i c) = ((r c : ℝ) : EReal))
include hr

/-- The row's count is the number of entries reaching the threshold. -/
theorem count_real (t : FVec Ideal Col .f32) (s : ℝ) (ht : t (ix2 i 0) = (s : EReal)) :
    count W h t (ix2 i 0) = ((reaching r s : ℝ) : EReal) := by
  unfold count
  rw [rowSum_apply, sitofp_extui_eq_uitofp]
  have hc : ∀ c : Fin n, (uitofp .f32 (cmpf .oge h (broadcastTo (Mat n) t W.col)) : FVec Ideal (Mat n) .f32) (ix2 i c)
      = (((if s ≤ r c then 1 else 0 : ℕ) : ℝ) : EReal) := by
    intro c
    show ((((FloatOps.cmpf .oge (h (ix2 i c)) (broadcastTo (Mat n) t W.col (ix2 i c)) : BitVec 1).toNat : ℕ) : ℝ) : EReal) = _
    rw [column_apply W t i c, ht, hr c, Ideal.cmpf_def]
    simp only [Ideal.cmp, EReal.coe_le_coe_iff]
    by_cases hs : s ≤ r c <;> simp [hs]
  rw [Finset.sum_congr rfl fun c _ => hc c]
  unfold reaching
  rw [Finset.card_filter, Nat.cast_sum, coe_sum]

theorem middle_real (p : FVec Ideal Col .f32 × FVec Ideal Col .f32) (a b : ℝ) (ha : p.1 (ix2 i 0) = (a : EReal)) (hb : p.2 (ix2 i 0) = (b : EReal)) :
    middle p (ix2 i 0) = ((centre (a, b) : ℝ) : EReal) := by
  show (Ideal.ofBits .f32 0x3F000000#32 : EReal) * (p.1 (ix2 i 0) + p.2 (ix2 i 0)) = _
  rw [ha, hb, word_half, ← EReal.coe_add, ← EReal.coe_mul]
  unfold centre
  congr 1
  ring

/-- The bracket of the row after any number of halvings. -/
theorem bracket_real (wk : BitVec 32) (hwk : Ideal.ofBits .f32 wk = ((k : ℝ) : EReal)) (p : ℝ × ℝ)
    (hlo : rowMin W h (ix2 i 0) = (p.1 : EReal)) (hhi : above W h (ix2 i 0) = (p.2 : EReal)) (j : ℕ) :
    (bracket W wk h j).1 (ix2 i 0) = ((halved r k p j).1 : EReal) ∧ (bracket W wk h j).2 (ix2 i 0) = ((halved r k p j).2 : EReal) := by
  induction j with
  | zero => exact ⟨hlo, hhi⟩
  | succ j ih =>
    obtain ⟨h1, h2⟩ := ih
    have hm := middle_real h i r hr (bracket W wk h j) _ _ h1 h2
    have he : enough W wk h (bracket W wk h j) (ix2 i 0) = BitVec.ofBool (decide (k ≤ reaching r (centre (halved r k p j)))) := by
      show FloatOps.cmpf .oge (count W h (middle (bracket W wk h j)) (ix2 i 0)) (Ideal.ofBits .f32 wk : Ideal .f32) = _
      rw [count_real W h i r hr _ _ hm, hwk, Ideal.cmpf_def]
      simp only [Ideal.cmp, EReal.coe_le_coe_iff, Nat.cast_le]
    unfold bracket halved
    by_cases hk : k ≤ reaching r (centre (halved r k p j))
    · have he' : enough W wk h (bracket W wk h j) (ix2 i 0) = 1#1 := by rw [he]; simp [hk]
      rw [if_pos hk]
      constructor
      · show Scalar.select (enough W wk h (bracket W wk h j) (ix2 i 0)) _ _ = _
        rw [he']; exact hm
      · show Scalar.select (enough W wk h (bracket W wk h j) (ix2 i 0)) _ _ = _
        rw [he']; exact h2
    · have he' : enough W wk h (bracket W wk h j) (ix2 i 0) = 0#1 := by rw [he]; simp [hk]
      rw [if_neg hk]
      constructor
      · show Scalar.select (enough W wk h (bracket W wk h j) (ix2 i 0)) _ _ = _
        rw [he']; exact h1
      · show Scalar.select (enough W wk h (bracket W wk h j) (ix2 i 0)) _ _ = _
        rw [he']; exact hm

/-- The first bracket of a row: every entry reaches its lower end, none its upper end. -/
theorem start_real (hn : 0 < n) : ∃ p : ℝ × ℝ, rowMin W h (ix2 i 0) = (p.1 : EReal) ∧ above W h (ix2 i 0) = (p.2 : EReal)
    ∧ reaching r p.1 = n ∧ reaching r p.2 = 0 := by
  obtain ⟨a, ha, ha'⟩ := fold_min_real hn r
  obtain ⟨b, hb, hb'⟩ := fold_max_real hn r
  obtain ⟨c, hc, hc'⟩ := word_raise
  have hmax : rowMax W h (ix2 i 0) = (b : EReal) := by
    rw [rowMax_apply]
    simp only [hr]
    exact hb
  refine ⟨(a, b + (|b| + 1) * c), ?_, ?_, ?_, ?_⟩
  · rw [rowMin_apply]
    simp only [hr]
    exact ha
  · show (rowMax W h (ix2 i 0) : EReal) + (max (rowMax W h (ix2 i 0)) (-(rowMax W h (ix2 i 0) : EReal)) + Ideal.ofBits .f32 0x3F800000#32)
      * Ideal.ofBits .f32 0x358637BD#32 = _
    rw [hmax, word_one, hc', abs_real, ← EReal.coe_add, ← EReal.coe_mul, ← EReal.coe_add]
  · unfold reaching
    rw [Finset.filter_true_of_mem fun c _ => ha' c, Finset.card_univ, Fintype.card_fin]
  · unfold reaching
    rw [Finset.card_eq_zero, Finset.filter_eq_empty_iff]
    intro d _
    have h1 : 0 < (|b| + 1) * c := by positivity
    have h2 := hb' d
    show ¬ b + (|b| + 1) * c ≤ r d
    linarith

/-- The `k`-th entry of the sorted row is the row's `k`-th largest. -/
theorem kth_real (L : Largest n k l) (hl : l < n) : ∃ t : ℝ, kth L h (ix2 i 0) = (t : EReal) ∧ IsKth r (l + 1) t := by
  have hlk : l < k := by have h1 := L.last.2 1; exact h1
  let before : Fin n → Fin n → Bool := fun c d => (FloatOps.cmpfTotal .gt (h (ix2 i c)) (h (ix2 i d)) : BitVec 1) == 1#1
  have e : kth L h (ix2 i 0) = h (ix2 i (sortedFrom before ⟨l, hl⟩)) := by
    unfold kth
    refine (extractStridedSlice_apply ![0, l] _ L.last (ix2 i 0) (ix2 i ⟨l, hlk⟩) fun a => ?_).trans
      (topK_apply L.fits (FloatOps.cmpfTotal .gt) h i l hlk hl)
    match a with
    | ⟨0, _⟩ => exact (Nat.zero_add _).symm
    | ⟨1, _⟩ => rfl
  refine ⟨r (sortedFrom before ⟨l, hl⟩), e.trans (hr _), ?_⟩
  refine sorted_isKth r before (fun c d => ?_) ⟨l, hl⟩
  show ((FloatOps.cmpfTotal .gt (h (ix2 i c)) (h (ix2 i d)) : BitVec 1) == 1#1) = true ↔ _
  rw [hr c, hr d, Ideal.cmpfTotal_def, beq_iff_eq]
  show BitVec.ofBool (decide ((r d : EReal) < (r c : EReal))) = 1#1 ↔ _
  rw [bit_eq_one, decide_eq_true_iff, EReal.coe_lt_coe_iff]

end Row

/-! ### A matrix -/

/-- What the condition says of an entry. -/
theorem entryApart_spec (P : PlainWidth n) (L : Largest n k l) (h : FVec Ideal (Mat n) .f32) (i : Fin 256) (c : Fin n)
    (e : entryApart P L h (ix2 i c) = 1#1) :
    max (h (ix2 i c) : EReal) (-(h (ix2 i c) : EReal)) < ⊤
      ∧ ((kth L h (ix2 i 0) : EReal) ≤ h (ix2 i c)
        ∨ (h (ix2 i c) : EReal) ≤ (kth L h (ix2 i 0) : EReal) - range P h (ix2 i 0) * Ideal.ofBits .f32 0x35800000#32) := by
  obtain ⟨e1, e2⟩ := IntOp.andi_eq_one.mp e
  constructor
  · have e1' : FloatOps.cmpf .olt (max (h (ix2 i c) : EReal) (-(h (ix2 i c) : EReal)) : Ideal .f32) (Ideal.ofBits .f32 0x7F800000#32) = 1#1 := e1
    rw [Ideal.cmpf_def, word_top] at e1'
    exact of_decide_eq_true (bit_eq_one.mp e1')
  · have e2' : IntOp.ori (FloatOps.cmpf .oge (h (ix2 i c)) (across P (kth L h) (ix2 i c)))
        (FloatOps.cmpf .ole (h (ix2 i c)) (across P (subf (kth L h) (mulf (range P h) (plainLit 0x35800000#32))) (ix2 i c))) = 1#1 := e2
    rw [show across P (kth L h) (ix2 i c) = kth L h (ix2 i 0) from acrossOf_apply P _ i c,
      show across P (subf (kth L h) (mulf (range P h) (plainLit 0x35800000#32))) (ix2 i c)
        = subf (kth L h) (mulf (range P h) (plainLit 0x35800000#32)) (ix2 i 0) from acrossOf_apply P _ i c] at e2'
    have hor : ∀ x y : BitVec 1, IntOp.ori x y = 1#1 → x = 1#1 ∨ y = 1#1 := by decide
    rcases hor _ _ e2' with e3 | e3
    · exact .inl (of_decide_eq_true (bit_eq_one.mp e3))
    · exact .inr (of_decide_eq_true (bit_eq_one.mp e3))

/-- On a row that meets the condition, keeping the largest entries by halving a bracket is keeping them by a sort. -/
theorem plainKeep_row (P : PlainWidth n) (W : Width n) (L : Largest n k l) (wk : BitVec 32) (hk : l + 1 = k) (hn : k ≤ n)
    (hwk : Ideal.ofBits .f32 wk = ((k : ℝ) : EReal)) (h : FVec Ideal (Mat n) .f32) (i : Fin 256)
    (ha : ∀ c : Fin n, entryApart P L h (ix2 i c) = 1#1) (c : Fin n) :
    plainKeep P L h (ix2 i c) = keep W wk h (ix2 i c) := by
  have hrange : range P h = subf (above W h) (rowMin W h) := by
    unfold range
    rw [plainMax_eq P W, plainMin_eq P W]
    rfl
  have key : cmpf .oge h (across P (kth L h)) (ix2 i c) = cmpf .oge h (broadcastTo (Mat n) (bracket W wk h 20).1 W.col) (ix2 i c) := by
    choose r hr using fun c : Fin n => real_of_abs_lt (entryApart_spec P L h i c (ha c)).1
    obtain ⟨p, hlo, hhi, h1, h2⟩ := start_real W h i r hr (by omega)
    obtain ⟨t, ht, hkth⟩ := kth_real h i r hr L (by omega)
    rw [hk] at hkth
    have hb := (bracket_real W h i r hr wk hwk p hlo hhi 20).1
    have hsep : t ≤ r c ∨ r c ≤ t - (p.2 - p.1) * ((2 : ℝ) ^ 20)⁻¹ := by
      have e := (entryApart_spec P L h i c (ha c)).2
      have er : range P h (ix2 i 0) = ((p.2 - p.1 : ℝ) : EReal) := by
        rw [hrange]
        show (above W h (ix2 i 0) : EReal) - rowMin W h (ix2 i 0) = _
        rw [hlo, hhi, ← EReal.coe_sub]
      rw [ht, hr c, er, word_width, ← EReal.coe_mul, ← EReal.coe_sub, EReal.coe_le_coe_iff, EReal.coe_le_coe_iff] at e
      exact e
    have hiff := halved_iff r k p (by omega) (by omega) 20 t hkth c hsep
    show FloatOps.cmpf .oge (h (ix2 i c)) (across P (kth L h) (ix2 i c)) = FloatOps.cmpf .oge (h (ix2 i c)) (broadcastTo (Mat n) (bracket W wk h 20).1 W.col (ix2 i c))
    rw [show across P (kth L h) (ix2 i c) = kth L h (ix2 i 0) from acrossOf_apply P _ i c, column_apply W _ i c, ht, hb, hr c]
    show BitVec.ofBool (decide ((t : EReal) ≤ (r c : EReal))) = BitVec.ofBool (decide (((halved r k p 20).1 : EReal) ≤ (r c : EReal)))
    simp only [EReal.coe_le_coe_iff, hiff]
  show Scalar.select (cmpf .oge h (across P (kth L h)) (ix2 i c)) _ _ = Scalar.select (cmpf .oge h (broadcastTo (Mat n) (bracket W wk h 20).1 W.col) (ix2 i c)) _ _
  rw [key]
  rfl

end Cert.Fused

end
-- ==== Proof.OneRow.lean ====
module

public import proofs.«01_k».proof.Proof.PlainSteps

/-!
# A row of the result depends on that row alone

Each step of the kernel, over the extended reals, takes two matrices that agree on a row to two that agree on it.
-/

@[expose] public section

noncomputable section

namespace Cert.Fused

open Idealize.ShloMosaic Idealize.ShloMosaic.TcCoe Idealize.ShloMosaic.ValueIdx Cert.KernelIdeal Cert.KernelIdeal.Gen

variable {n p q : ℕ}

/-- Two matrices agree on row `i`. -/
def SameRow (i : Fin 256) (h h' : FVec Ideal (Mat n) .f32) : Prop := ∀ c : Fin n, h (ix2 i c) = h' (ix2 i c)

section Row

variable {i : Fin 256} {h h' : FVec Ideal (Mat n) .f32} (H : SameRow i h h') (W : Width n)
include H

theorem rowSum_row : rowSum W h (ix2 i 0) = rowSum W h' (ix2 i 0) := by
  rw [rowSum_apply, rowSum_apply]
  exact Finset.sum_congr rfl fun c _ => H c

theorem rowMin_row : rowMin W h (ix2 i 0) = rowMin W h' (ix2 i 0) := by
  rw [rowMin_apply, rowMin_apply, funext H]

theorem rowMax_row : rowMax W h (ix2 i 0) = rowMax W h' (ix2 i 0) := by
  rw [rowMax_apply, rowMax_apply, funext H]

theorem above_row : above W h (ix2 i 0) = above W h' (ix2 i 0) := by
  have e := rowMax_row H W
  show FloatOps.addf (rowMax W h (ix2 i 0)) (FloatOps.mulf (FloatOps.addf (FloatOps.absf (rowMax W h (ix2 i 0))) _) _) = _
  rw [e]
  rfl

theorem centred_row (wn : BitVec 32) : SameRow i (centred W wn h) (centred W wn h') := fun c => by
  have e : mean W wn h (ix2 i 0) = mean W wn h' (ix2 i 0) := congrArg (fun u => FloatOps.divf u _) (rowSum_row H W)
  exact congrArg₂ FloatOps.subf (H c) ((column_apply W _ i c).trans (e.trans (column_apply W _ i c).symm))

theorem normalise_row (wn : BitVec 32) (g b : FVec Ideal (Row n) .f32) : SameRow i (normalise W wn h g b) (normalise W wn h' g b) := fun c => by
  have hc := centred_row H W wn
  have hs := rowSum_row (h := mulf (centred W wn h) (centred W wn h)) (h' := mulf (centred W wn h') (centred W wn h'))
    (fun c => congrArg₂ FloatOps.mulf (hc c) (hc c)) W
  have hd : sqrt (addf (divf (rowSum W (mulf (centred W wn h) (centred W wn h))) (lit wn)) (lit 0x3727C5AC#32)) (ix2 i 0)
      = sqrt (addf (divf (rowSum W (mulf (centred W wn h') (centred W wn h'))) (lit wn)) (lit 0x3727C5AC#32)) (ix2 i 0) :=
    congrArg (fun u => FloatOps.sqrt (FloatOps.addf (FloatOps.divf u _) _)) hs
  refine congrArg (fun u => FloatOps.addf (FloatOps.mulf u _) _) (congrArg₂ FloatOps.divf (hc c) ?_)
  exact (column_apply W _ i c).trans (hd.trans (column_apply W _ i c).symm)

theorem count_row {t t' : FVec Ideal Col .f32} (ht : t (ix2 i 0) = t' (ix2 i 0)) : count W h t (ix2 i 0) = count W h' t' (ix2 i 0) := by
  refine rowSum_row (fun c => ?_) W
  refine congrArg (fun u : BitVec 1 => (FloatOps.sitofp .f32 (u.setWidth 32) : Ideal .f32)) ?_
  exact congrArg₂ (FloatOps.cmpf .oge) (H c) ((column_apply W _ i c).trans (ht.trans (column_apply W _ i c).symm))

/-- The brackets of the row agree after any number of halvings. -/
theorem bracket_row (wk : BitVec 32) (j : ℕ) :
    (bracket W wk h j).1 (ix2 i 0) = (bracket W wk h' j).1 (ix2 i 0) ∧ (bracket W wk h j).2 (ix2 i 0) = (bracket W wk h' j).2 (ix2 i 0) := by
  induction j with
  | zero => exact ⟨rowMin_row H W, above_row H W⟩
  | succ j ih =>
    obtain ⟨h1, h2⟩ := ih
    have hm : middle (bracket W wk h j) (ix2 i 0) = middle (bracket W wk h' j) (ix2 i 0) :=
      congrArg (FloatOps.mulf _) (congrArg₂ FloatOps.addf h1 h2)
    have he : enough W wk h (bracket W wk h j) (ix2 i 0) = enough W wk h' (bracket W wk h' j) (ix2 i 0) :=
      congrArg (fun u => FloatOps.cmpf .oge u _) (count_row H W hm)
    unfold bracket
    constructor
    · show Scalar.select (enough W wk h (bracket W wk h j) (ix2 i 0)) _ _ = Scalar.select (enough W wk h' (bracket W wk h' j) (ix2 i 0)) _ _
      rw [he, hm, h1]
    · show Scalar.select (enough W wk h (bracket W wk h j) (ix2 i 0)) _ _ = Scalar.select (enough W wk h' (bracket W wk h' j) (ix2 i 0)) _ _
      rw [he, hm, h2]

theorem keep_row (wk : BitVec 32) : SameRow i (keep W wk h) (keep W wk h') := fun c => by
  have e : cmpf .oge h (broadcastTo (Mat n) (bracket W wk h 20).1 W.col) (ix2 i c)
      = cmpf .oge h' (broadcastTo (Mat n) (bracket W wk h' 20).1 W.col) (ix2 i c) :=
    congrArg₂ (FloatOps.cmpf .oge) (H c) ((column_apply W _ i c).trans ((bracket_row H W wk 20).1.trans (column_apply W _ i c).symm))
  show Scalar.select (cmpf .oge h (broadcastTo (Mat n) (bracket W wk h 20).1 W.col) (ix2 i c)) (h (ix2 i c)) _ = _
  rw [e, H c]
  rfl

end Row

/-- A layer's row depends on that row of its operand. -/
theorem layer_row {i : Fin 256} {h h' : FVec Ideal (Mat n) .f32} (H : SameRow i h h') (W : Width n) (wn wk : BitVec 32)
    (g b : FVec Ideal (Row n) .f32) : SameRow i (layer W wn wk h g b) (layer W wn wk h' g b) :=
  keep_row (normalise_row H W wn g b) W wk

/-- A plain product of a matrix is, on a row, the kernel's of a matrix that agrees on it. -/
theorem plainDense_row (P : PlainWidth q) (W : Width q) (D : Product p q) (wf : DotDims.WF (Mat p) ⟨2, ![q, p]⟩ (Mat q) [1] [1] [0] [0] [] [])
    {i : Fin 256} {x x' : FVec Ideal (Mat p) .f32} (H : SameRow i x x') (w : FVec Ideal ⟨2, ![q, p]⟩ .f32)
    {r : FVec Ideal (Row q) .f32} {b : FVec Ideal (Flat q) .f32} (Hb : Holds r b) : SameRow i (plainDense P D x w b) (dense W (pairs wf) x' w r) := by
  intro c
  rw [← plainDense_eq P W D wf x' w Hb, plainDense_apply, plainDense_apply]
  exact congrArg (· + _) (Finset.sum_congr rfl fun a _ => congrArg (· * _) (H a))

end Cert.Fused

end
-- ==== Proof.NetworkPlain.lean ====
module

public import proofs.«01_k».proof.Proof.KeepPlain
public import proofs.«01_k».proof.Proof.OneRow

/-!
# The plain network is the kernel's network

On a row whose activations are well apart in each of the four layers, the plain program after its first product is
what the kernel's last step computes from that product.
-/

@[expose] public section

set_option maxRecDepth 16384

noncomputable section

namespace Cert.Fused

open Idealize.ShloMosaic Idealize.ShloMosaic.TcCoe Idealize.ShloMosaic.ValueIdx Cert.KernelIdeal Cert.KernelIdeal.Gen

/-- One plain layer is, on a row that meets the condition, one layer of the kernel. -/
theorem plainLayer_row {n k l : ℕ} (P : PlainWidth n) (W : Width n) (L : Largest n k l) (hk : l + 1 = k) (hn : k ≤ n) {wn wk : BitVec 32}
    (hwn : Ideal.ofBits .f32 wn = ((n : ℝ) : EReal)) (hwk : Ideal.ofBits .f32 wk = ((k : ℝ) : EReal))
    {i : Fin 256} {h h' : FVec Ideal (Mat n) .f32} (H : SameRow i h h') {rg rb : FVec Ideal (Row n) .f32} {g b : FVec Ideal (Flat n) .f32}
    (Hg : Holds rg g) (Hb : Holds rb b) (ha : ∀ c : Fin n, entryApart P L (plainNormalise P wn h g b) (ix2 i c) = 1#1) :
    SameRow i (plainKeep P L (plainNormalise P wn h g b)) (layer W wn wk h' rg rb) := by
  have hpos : 0 < Ideal.ofBits .f32 wn := by
    rw [hwn]
    have : (0 : ℝ) < n := by exact_mod_cast (show 0 < n by omega)
    exact_mod_cast this
  intro c
  rw [plainKeep_row P W L wk hk hn hwk _ i ha, plainNormalise_eq P W wn hpos h Hg Hb]
  exact layer_row H W wn wk rg rb c

theorem pairs571 : DotDims.WF (Mat 800) ⟨2, ![571, 800]⟩ (Mat 571) [1] [1] [0] [0] [] [] := by decide
theorem pairs500 : DotDims.WF (Mat 571) ⟨2, ![500, 571]⟩ (Mat 500) [1] [1] [0] [0] [] [] := by decide
theorem pairs250 : DotDims.WF (Mat 500) ⟨2, ![250, 500]⟩ (Mat 250) [1] [1] [0] [0] [] [] := by decide
theorem pairsLast : DotDims.WF (Mat 250) ⟨2, ![250, 250]⟩ (Mat 250) [1] [1] [0] [0] [] [] := by decide

/-- On a row that meets the condition in each layer, the plain program, from its first product on, is the network the kernel computes. -/
theorem plainNetwork_row (x : FVec Ideal (Mat 100000) .f32) (w1 : FVec Ideal ⟨2, ![800, 100000]⟩ .f32) (b1 g1 e1 : FVec Ideal (Flat 800) .f32)
    (w2 : FVec Ideal ⟨2, ![571, 800]⟩ .f32) (b2 g2 e2 : FVec Ideal (Flat 571) .f32)
    (w3 : FVec Ideal ⟨2, ![500, 571]⟩ .f32) (b3 g3 e3 : FVec Ideal (Flat 500) .f32)
    (w4 : FVec Ideal ⟨2, ![250, 500]⟩ .f32) (b4 g4 e4 : FVec Ideal (Flat 250) .f32)
    (w5 : FVec Ideal ⟨2, ![250, 250]⟩ .f32) (b5 : FVec Ideal (Flat 250) .f32)
    {rg1 re1 : FVec Ideal (Row 800) .f32} {rb2 rg2 re2 : FVec Ideal (Row 571) .f32} {rb3 rg3 re3 : FVec Ideal (Row 500) .f32}
    {rb4 rg4 re4 rb5 : FVec Ideal (Row 250) .f32}
    (Hg1 : Holds rg1 g1) (He1 : Holds re1 e1) (Hb2 : Holds rb2 b2) (Hg2 : Holds rg2 g2) (He2 : Holds re2 e2)
    (Hb3 : Holds rb3 b3) (Hg3 : Holds rg3 g3) (He3 : Holds re3 e3) (Hb4 : Holds rb4 b4) (Hg4 : Holds rg4 g4) (He4 : Holds re4 e4)
    (Hb5 : Holds rb5 b5)
    (i : Fin 256) (a1 : ∀ c : Fin 800, entryApart plain800 largest800 (first x w1 b1 g1 e1) (ix2 i c) = 1#1)
    (a2 : ∀ c : Fin 571, entryApart plain571 largest571 (second x w1 b1 g1 e1 w2 b2 g2 e2) (ix2 i c) = 1#1)
    (a3 : ∀ c : Fin 500, entryApart plain500 largest500 (third x w1 b1 g1 e1 w2 b2 g2 e2 w3 b3 g3 e3) (ix2 i c) = 1#1)
    (a4 : ∀ c : Fin 250, entryApart plain250 largest250 (fourth x w1 b1 g1 e1 w2 b2 g2 e2 w3 b3 g3 e3 w4 b4 g4 e4) (ix2 i c) = 1#1) :
    SameRow i (plainNetwork x w1 b1 g1 e1 w2 b2 g2 e2 w3 b3 g3 e3 w4 b4 g4 e4 w5 b5)
      (network (plainDense plain800 product800 x w1 b1) rg1 re1 w2 rb2 rg2 re2 w3 rb3 rg3 re3 w4 rb4 rg4 re4 w5 rb5) := by
  have k1 := plainLayer_row plain800 width800 largest800 rfl (by decide) (wk := 0x438C0000#32) (word_800.trans (by norm_num)) (word_280.trans (by norm_num)) (fun _ => rfl) Hg1 He1 a1
  have d2 := plainDense_row plain571 width571 product571 pairs571 k1 w2 Hb2
  have k2 := plainLayer_row plain571 width571 largest571 rfl (by decide) (wk := 0x43470000#32) (word_571.trans (by norm_num)) (word_199.trans (by norm_num)) d2 Hg2 He2 a2
  have d3 := plainDense_row plain500 width500 product500 pairs500 k2 w3 Hb3
  have k3 := plainLayer_row plain500 width500 largest500 rfl (by decide) (wk := 0x432F0000#32) (word_500.trans (by norm_num)) (word_175.trans (by norm_num)) d3 Hg3 He3 a3
  have d4 := plainDense_row plain250 width250 product250 pairs250 k3 w4 Hb4
  have k4 := plainLayer_row plain250 width250 largest250 rfl (by decide) (wk := 0x42AE0000#32) (word_250.trans (by norm_num)) (word_87.trans (by norm_num)) d4 Hg4 He4 a4
  exact plainDense_row plain250 width250 productLast pairsLast k4 w5 Hb5

end Cert.Fused

end
-- ==== Proof.RowCondition.lean ====
module

public import proofs.«01_k».proof.Proof.Rows
public import proofs.«01_k».proof.On_separated_rows
public import Idealize.ShloMosaic.Lib.ReduceAll

/-!
# The mask is stated over the plain composition

The printed mask selects the rows that are `rowApart` in each of the four layers. What the mask and the precondition
say of a layer's entries is read off here.
-/

@[expose] public section

set_option maxRecDepth 16384

noncomputable section

namespace Cert.Fused

open Idealize.ShloMosaic Idealize.ShloMosaic.TcCoe Idealize.ShloMosaic.ValueIdx

/-- The shape facts the printed mask states. -/
theorem maskFacts : Cert.On_separated_rows.Facts := by constructor <;> decide

section Mask

variable {F : FTy → Type} [FloatOps F]

variable (x : FVec F (Mat 100000) .f32) (w1 : FVec F ⟨2, ![800, 100000]⟩ .f32) (b1 g1 e1 : FVec F (Flat 800) .f32)
  (w2 : FVec F ⟨2, ![571, 800]⟩ .f32) (b2 g2 e2 : FVec F (Flat 571) .f32)
  (w3 : FVec F ⟨2, ![500, 571]⟩ .f32) (b3 g3 e3 : FVec F (Flat 500) .f32)
  (w4 : FVec F ⟨2, ![250, 500]⟩ .f32) (b4 g4 e4 : FVec F (Flat 250) .f32)
  (w5 : FVec F ⟨2, ![250, 250]⟩ .f32) (b5 : FVec F (Flat 250) .f32)

set_option maxHeartbeats 4000000 in
/-- The printed mask is `rowsApart` of the arguments. -/
theorem mask_eq [Cert.On_separated_rows.Facts] :
    Cert.On_separated_rows.fn (F := F) x w1 b1 g1 e1 w2 b2 g2 e2 w3 b3 g3 e3 w4 b4 g4 e4 w5 b5
      = rowsApart x w1 b1 g1 e1 w2 b2 g2 e2 w3 b3 g3 e3 w4 b4 g4 e4 := rfl

end Mask

/-! ### The condition of a row -/

variable {n k l : ℕ} (P : PlainWidth n) (L : Largest n k l) (h : FVec Ideal (Mat n) .f32)

/-- Where every entry meets the condition, each does. -/
theorem entry_of_apart (ha : apart P L h ix0 = 1#1) (i : Fin 256) (c : Fin n) : entryApart P L h (ix2 i c) = 1#1 := by
  haveI : Subsingleton Point.Idx := ⟨fun a b => (eq_ix0 a).trans (eq_ix0 b).symm⟩
  exact Host.reduce_andi_all _ _ P.every point_pos ix0 ha (ix2 i c)

/-- Where a row's entries meet the condition, each does. -/
theorem entry_of_rowApart (i : Fin 256) (ha : rowApart P L h (ix2 i 0) = 1#1) (c : Fin n) : entryApart P L h (ix2 i c) = 1#1 := by
  refine Host.reduce_andi_eq_one _ _ P.red point_pos (ix1 i) ((plainColumn_of_flat _ i).symm.trans ha) (ix2 i c) ?_
  funext a
  match a with
  | ⟨0, _⟩ => rfl

end Cert.Fused

end
-- ==== Proof.Result.lean ====
module

public import proofs.«01_k».proof.Proof.FirstLayer
public import proofs.«01_k».proof.Proof.NetworkPlain
public import proofs.«01_k».proof.Proof.RowCondition

/-!
# The kernel's result

The result array is written once, whole, at the last point. In every row whose activations are well apart it
holds what the plain program computes.
-/

@[expose] public section

set_option maxRecDepth 16384

noncomputable section

namespace Cert.Fused

open Cert.KernelIdeal Cert.KernelIdeal.Gen
open Idealize.ShloMosaic Idealize.ShloMosaic.TcCoe Idealize.ShloMosaic.Tactic Idealize.SL.Sem

variable (m : (ℓ : Loc nD τ sig) → Buf (Elt Ideal) ℓ) (ρ : Dev nD → PrngReg)

/-- The last point of the grid. -/
abbrev last : Fin cfg0.N := ⟨24, lt_of_lt_of_eq (by decide) N_0.symm⟩

/-- The result array after the run is what the last step stores. -/
theorem result_eq (c : Dev nD) : (dats m 0 c).arrAt 19 cfg0.N = outAt m c last := by
  refine (dats m 0 c).arrAt_eq_of_after_last 19 last (by decide +kernel) _ fun j => ?_
  blk_simp
  rfl

/-- The run, with its result read. -/
theorem result_run : θ_run defs (onTc (τ := τ) (main (F := Ideal))) ⟨m, fun _ => 0, ρ⟩
    (fun r => ∀ c : Dev nD, r.2.mem ((c : Thread nD τ).loc main_v13) = outAt m c last) :=
  (θ_run defs _ _).mono (fun _ h c => ((h c).1 19).trans (result_eq m c)) (run_main m ρ)

/-- On a row that meets the condition in each layer, what the last step stores is the plain program's result. -/
theorem outAt_row (c : Dev nD) (i : Fin 256)
    (a1 : ∀ d : Fin 800, entryApart plain800 largest800 (first (F := Ideal) (m ((c : Thread nD τ).loc main_arg0)) (m ((c : Thread nD τ).loc main_arg1)) (m ((c : Thread nD τ).loc main_arg2))
      (m ((c : Thread nD τ).loc main_arg3)) (m ((c : Thread nD τ).loc main_arg4)))
      (ValueIdx.ix2 i d) = 1#1)
    (a2 : ∀ d : Fin 571, entryApart plain571 largest571 (second (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)))
      (ValueIdx.ix2 i d) = 1#1)
    (a3 : ∀ d : Fin 500, entryApart plain500 largest500 (third (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) (m ((c : Thread nD τ).loc main_arg11))
      (m ((c : Thread nD τ).loc main_arg12)))
      (ValueIdx.ix2 i d) = 1#1)
    (a4 : ∀ d : Fin 250, entryApart plain250 largest250 (fourth (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) (m ((c : Thread nD τ).loc main_arg11))
      (m ((c : Thread nD τ).loc main_arg12)) (m ((c : Thread nD τ).loc main_arg13)) (m ((c : Thread nD τ).loc main_arg14))
      (m ((c : Thread nD τ).loc main_arg15)) (m ((c : Thread nD τ).loc main_arg16)))
      (ValueIdx.ix2 i d) = 1#1) :
    SameRow i (outAt m c last) (plainNetwork (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) (m ((c : Thread nD τ).loc main_arg11))
      (m ((c : Thread nD τ).loc main_arg12)) (m ((c : Thread nD τ).loc main_arg13)) (m ((c : Thread nD τ).loc main_arg14))
      (m ((c : Thread nD τ).loc main_arg15)) (m ((c : Thread nD τ).loc main_arg16)) (m ((c : Thread nD τ).loc main_arg17))
      (m ((c : Thread nD τ).loc main_arg18))) := by
  intro d
  refine Eq.trans ?_ (plainNetwork_row _ _ _ _ _ _ _ _ _ _ _ _ _ _ _ _ _ _ _ (row3 m c last) (row4 m c last) (row6 m c last) (row7 m c last)
    (row8 m c last) (row10 m c last) (row11 m c last) (row12 m c last) (row14 m c last) (row15 m c last) (row16 m c last) (row18 m c last)
    i a1 a2 a3 a4 d).symm
  unfold outAt
  rw [finished_eq m c last rfl, weights5, weights9, weights13, weights17]

/-- Where the mask is set, what the last step stores is the plain program's result, -/
theorem outAt_of_mask (c : Dev nD) (j : (Mat 250).Idx) (ha : rowsApart (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) (m ((c : Thread nD τ).loc main_arg11))
      (m ((c : Thread nD τ).loc main_arg12)) (m ((c : Thread nD τ).loc main_arg13)) (m ((c : Thread nD τ).loc main_arg14))
      (m ((c : Thread nD τ).loc main_arg15)) (m ((c : Thread nD τ).loc main_arg16)) j = 1#1) :
    outAt m c last j = plainNetwork (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) (m ((c : Thread nD τ).loc main_arg11))
      (m ((c : Thread nD τ).loc main_arg12)) (m ((c : Thread nD τ).loc main_arg13)) (m ((c : Thread nD τ).loc main_arg14))
      (m ((c : Thread nD τ).loc main_arg15)) (m ((c : Thread nD τ).loc main_arg16)) (m ((c : Thread nD τ).loc main_arg17))
      (m ((c : Thread nD τ).loc main_arg18)) j := by
  rw [ValueIdx.eq_ix2 j] at ha ⊢
  obtain ⟨h123, a4⟩ := IntOp.andi_eq_one.mp ((acrossOf_apply plain250 _ (j 0) (j 1)).symm.trans ha)
  obtain ⟨h12, a3⟩ := IntOp.andi_eq_one.mp h123
  obtain ⟨a1, a2⟩ := IntOp.andi_eq_one.mp h12
  exact outAt_row m c (j 0) (entry_of_rowApart _ _ _ _ a1) (entry_of_rowApart _ _ _ _ a2) (entry_of_rowApart _ _ _ _ a3)
    (entry_of_rowApart _ _ _ _ a4) (j 1)

/-- and under the precondition it is at every entry. -/
theorem outAt_eq (c : Dev nD) (ha : allApart (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) (m ((c : Thread nD τ).loc main_arg11))
      (m ((c : Thread nD τ).loc main_arg12)) (m ((c : Thread nD τ).loc main_arg13)) (m ((c : Thread nD τ).loc main_arg14))
      (m ((c : Thread nD τ).loc main_arg15)) (m ((c : Thread nD τ).loc main_arg16)) ValueIdx.ix0 = 1#1) :
    outAt m c last = plainNetwork (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) (m ((c : Thread nD τ).loc main_arg11))
      (m ((c : Thread nD τ).loc main_arg12)) (m ((c : Thread nD τ).loc main_arg13)) (m ((c : Thread nD τ).loc main_arg14))
      (m ((c : Thread nD τ).loc main_arg15)) (m ((c : Thread nD τ).loc main_arg16)) (m ((c : Thread nD τ).loc main_arg17))
      (m ((c : Thread nD τ).loc main_arg18)) := by
  obtain ⟨h123, a4⟩ := IntOp.andi_eq_one.mp ha
  obtain ⟨h12, a3⟩ := IntOp.andi_eq_one.mp h123
  obtain ⟨a1, a2⟩ := IntOp.andi_eq_one.mp h12
  funext j
  rw [ValueIdx.eq_ix2 j]
  exact outAt_row m c (j 0) (entry_of_apart _ _ _ a1 _) (entry_of_apart _ _ _ a2 _) (entry_of_apart _ _ _ a3 _) (entry_of_apart _ _ _ a4 _) (j 1)

end Cert.Fused

end
-- ==== Proof.PlainReference.lean ====
module

public import proofs.«01_k».proof.Proof.Plain
public import proofs.«01_k».proof.Proof.Gen.ReferenceIdeal.Read

/-!
# The reference is the plain composition

The reference's value, one operation at a time, is `plainNetwork` of its arguments.
-/

@[expose] public section

set_option maxRecDepth 16384

noncomputable section

namespace Cert.Fused

open Idealize.ShloMosaic Idealize.ShloMosaic.TcCoe Cert.ReferenceIdeal.Read

variable {F : FTy → Type} [FloatOps F]

variable (x : FVec F (Mat 100000) .f32) (w1 : FVec F ⟨2, ![800, 100000]⟩ .f32) (b1 g1 e1 : FVec F (Flat 800) .f32)
  (w2 : FVec F ⟨2, ![571, 800]⟩ .f32) (b2 g2 e2 : FVec F (Flat 571) .f32)
  (w3 : FVec F ⟨2, ![500, 571]⟩ .f32) (b3 g3 e3 : FVec F (Flat 500) .f32)
  (w4 : FVec F ⟨2, ![250, 500]⟩ .f32) (b4 g4 e4 : FVec F (Flat 250) .f32)
  (w5 : FVec F ⟨2, ![250, 250]⟩ .f32) (b5 : FVec F (Flat 250) .f32)

theorem reference_first : val_main_v22 (F := F) x w1 b1 g1 e1 = first x w1 b1 g1 e1 := rfl

theorem reference_dense2 : val_main_v32 (F := F) x w1 b1 g1 e1 w2 b2
    = plainDense plain571 product571 (plainKeep plain800 largest800 (val_main_v22 (F := F) x w1 b1 g1 e1)) w2 b2 := rfl

theorem reference_norm2 : val_main_v50 (F := F) x w1 b1 g1 e1 w2 b2 g2 e2
    = plainNormalise plain571 0x440EC000#32 (val_main_v32 (F := F) x w1 b1 g1 e1 w2 b2) g2 e2 := rfl

theorem reference_dense3 : val_main_v60 (F := F) x w1 b1 g1 e1 w2 b2 g2 e2 w3 b3
    = plainDense plain500 product500 (plainKeep plain571 largest571 (val_main_v50 (F := F) x w1 b1 g1 e1 w2 b2 g2 e2)) w3 b3 := rfl

theorem reference_norm3 : val_main_v78 (F := F) x w1 b1 g1 e1 w2 b2 g2 e2 w3 b3 g3 e3
    = plainNormalise plain500 0x43FA0000#32 (val_main_v60 (F := F) x w1 b1 g1 e1 w2 b2 g2 e2 w3 b3) g3 e3 := rfl

theorem reference_dense4 : val_main_v88 (F := F) x w1 b1 g1 e1 w2 b2 g2 e2 w3 b3 g3 e3 w4 b4
    = plainDense plain250 product250 (plainKeep plain500 largest500 (val_main_v78 (F := F) x w1 b1 g1 e1 w2 b2 g2 e2 w3 b3 g3 e3)) w4 b4 := rfl

theorem reference_norm4 : val_main_v106 (F := F) x w1 b1 g1 e1 w2 b2 g2 e2 w3 b3 g3 e3 w4 b4 g4 e4
    = plainNormalise plain250 0x437A0000#32 (val_main_v88 (F := F) x w1 b1 g1 e1 w2 b2 g2 e2 w3 b3 g3 e3 w4 b4) g4 e4 := rfl

theorem reference_last : val_main_v116 (F := F) x w1 b1 g1 e1 w2 b2 g2 e2 w3 b3 g3 e3 w4 b4 g4 e4 w5 b5
    = plainDense plain250 productLast (plainKeep plain250 largest250
        (val_main_v106 (F := F) x w1 b1 g1 e1 w2 b2 g2 e2 w3 b3 g3 e3 w4 b4 g4 e4)) w5 b5 := rfl

/-- The reference's result is the plain network of its arguments. -/
theorem reference_eq : val_main_v116 (F := F) x w1 b1 g1 e1 w2 b2 g2 e2 w3 b3 g3 e3 w4 b4 g4 e4 w5 b5
    = plainNetwork x w1 b1 g1 e1 w2 b2 g2 e2 w3 b3 g3 e3 w4 b4 g4 e4 w5 b5 := by
  rw [reference_last, reference_norm4, reference_dense4, reference_norm3, reference_dense3, reference_norm2, reference_dense2, reference_first]
  rfl

end Cert.Fused

end
-- ==== Proof.PlainCondition.lean ====
module

public import proofs.«01_k».proof.Proof.Plain
public import proofs.«01_k».proof.Pre_separated

/-!
# The precondition is stated over the plain composition

The printed predicate is the conjunction, over the four layers, of `apart` of the layer's normalised activations.
-/

@[expose] public section

set_option maxRecDepth 16384

noncomputable section

namespace Cert.Fused

open Idealize.ShloMosaic Idealize.ShloMosaic.TcCoe

/-- The shape facts the printed predicate states. -/
theorem conditionFacts : Cert.Pre_separated.Facts := by constructor <;> decide

variable {F : FTy → Type} [FloatOps F]

variable (x : FVec F (Mat 100000) .f32) (w1 : FVec F ⟨2, ![800, 100000]⟩ .f32) (b1 g1 e1 : FVec F (Flat 800) .f32)
  (w2 : FVec F ⟨2, ![571, 800]⟩ .f32) (b2 g2 e2 : FVec F (Flat 571) .f32)
  (w3 : FVec F ⟨2, ![500, 571]⟩ .f32) (b3 g3 e3 : FVec F (Flat 500) .f32)
  (w4 : FVec F ⟨2, ![250, 500]⟩ .f32) (b4 g4 e4 : FVec F (Flat 250) .f32)
  (w5 : FVec F ⟨2, ![250, 250]⟩ .f32) (b5 : FVec F (Flat 250) .f32)

set_option maxHeartbeats 4000000 in
/-- The printed predicate is `allApart` of the arguments. -/
theorem condition_eq [Cert.Pre_separated.Facts] :
    Cert.Pre_separated.fn (F := F) x w1 b1 g1 e1 w2 b2 g2 e2 w3 b3 g3 e3 w4 b4 g4 e4 w5 b5
      = allApart x w1 b1 g1 e1 w2 b2 g2 e2 w3 b3 g3 e3 w4 b4 g4 e4 := rfl

end Cert.Fused

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Same
public import proofs.«01_k».proof.Proof.Result
public import proofs.«01_k».proof.Proof.PlainReference
public import proofs.«01_k».proof.Proof.PlainCondition
public import Idealize.ShloMosaic.Adequacy
public import Idealize.ShloMosaic.Init

@[expose] public section

noncomputable section

namespace Cert.Proof

open Idealize.ShloMosaic Idealize.SL.Sem Cert.Kernel

theorem quiescent_ReferenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Where the activations are well apart, the kernel and the reference compute the same array. -/
theorem algebraic : Cert.algebraic_KernelIdeal_ReferenceIdeal_pre_separated (hPre_separated := Cert.Fused.conditionFacts) := by
  pair_intro
  · run_from Cert.Fused.result_run m g & Cert.Fused.frame (F := Ideal) m g
  · refine (θ_run Cert.ReferenceIdeal.defs _ _).mono (fun r h c => ⟨?_, (h c).2⟩) (Cert.ReferenceIdeal.Value.run (F := Ideal) m' g')
    rw [(h c).1, Cert.ReferenceIdeal.Read.val_main_v116_eq, Cert.Fused.reference_eq]
    obtain ⟨e0, e1, e2, e3, e4, e5, e6, e7, e8, e9, e10, e11, e12, e13, e14, e15, e16, e17, e18⟩ := hagree c
    haveI := Cert.Fused.conditionFacts
    have hc := (congrFun (Cert.Fused.condition_eq ..).symm ValueIdx.ix0).trans (congrFun (hpre c) ValueIdx.ix0)
    simp only [StableHlo.launchContents_devRef, e0, e1, e2, e3, e4, e5, e6, e7, e8, e9, e10, e11, e12, e13, e14, e15, e16, e17, e18]
    exact (Cert.Fused.outAt_eq m c hc).symm

/-- Without a precondition, the kernel and the reference compute the same entries in every row whose activations are well apart. -/
theorem algebraic_rows : Cert.algebraic_KernelIdeal_ReferenceIdeal_on_separated_rows (hOn_separated_rows := Cert.Fused.maskFacts) := by
  intro m g m' g' _ hagree
  refine ⟨fun c => Cert.Fused.outAt m c Cert.Fused.last, ?_, ?_⟩
  · exact θ_run_mono (θ_run_and (Cert.Fused.result_run m g) (Cert.Fused.frame (F := Ideal) m g))
      fun r h c => ⟨fun i _ => congrFun (h.1 c) i, h.2.1 c⟩
  · refine (θ_run Cert.ReferenceIdeal.defs _ _).mono (fun r h c => ⟨fun i hi => ?_, (h c).2⟩) (Cert.ReferenceIdeal.Value.run (F := Ideal) m' g')
    rw [(h c).1, Cert.ReferenceIdeal.Read.val_main_v116_eq, Cert.Fused.reference_eq]
    obtain ⟨e0, e1, e2, e3, e4, e5, e6, e7, e8, e9, e10, e11, e12, e13, e14, e15, e16, e17, e18⟩ := hagree c
    haveI := Cert.Fused.maskFacts
    have hc := (congrFun (Cert.Fused.mask_eq ..).symm i).trans hi
    simp only [StableHlo.launchContents_devRef, e0, e1, e2, e3, e4, e5, e6, e7, e8, e9, e10, e11, e12, e13, e14, e15, e16, e17, e18]
    exact (Cert.Fused.outAt_of_mask m c i hc).symm

theorem claim : Cert.Claim := ⟨Cert.Kernel.Gen.facts, Cert.KernelIdeal.Gen.facts, Cert.ReferenceIdeal.Gen.facts, Cert.Fused.conditionFacts,
  Cert.Fused.maskFacts, Cert.Fused.frame_kernel, fun m ρ _ => Cert.Fused.frame (F := Ideal) m ρ, fun m ρ _ => Cert.Fused.frame (F := Ideal) m ρ,
  quiescent_ReferenceIdeal, fun m ρ _ => quiescent_ReferenceIdeal m ρ trivial,
  (trivial : Cert.preserves_Kernel_KernelIdeal), algebraic, algebraic_rows⟩

end Cert.Proof

end
